-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.1 = (fun _ => 1#1)
    ∧ (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.2.1 = (fun _ => 1#1)
    ∧ (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.2.2 = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel) (hPre_drawn := hPre_drawn)
    ∧ quiescent_KernelIdeal (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal (hKernelIdeal := hKernelIdeal) (hReferenceIdeal := hReferenceIdeal) (hPre_drawn := hPre_drawn)
-- ==== Pre_drawn.lean ====
abbrev S16x64x128x128 : Shape := ⟨4, ![16, 64, 128, 128]⟩
abbrev S4096x2 : Shape := ⟨2, ![4096, 2]⟩
abbrev S4096x128x2 : Shape := ⟨3, ![4096, 128, 2]⟩
abbrev S4096 : Shape := ⟨1, ![4096]⟩
abbrev S512x8256 : Shape := ⟨2, ![512, 8256]⟩
abbrev S256x512 : Shape := ⟨2, ![256, 512]⟩
abbrev S256 : Shape := ⟨1, ![256]⟩
abbrev S_ : Shape := ⟨0, ![]⟩
abbrev S4095 : Shape := ⟨1, ![4095]⟩

class Facts : Prop where
  bcast_S_S16x64x128x128 : S_.BroadcastsInDim S16x64x128x128 (![] : Fin 0 → Fin S16x64x128x128.rank)
  bcast_S_S4096x2 : S_.BroadcastsInDim S4096x2 (![] : Fin 0 → Fin S4096x2.rank)
  bcast_S_S4096x128x2 : S_.BroadcastsInDim S4096x128x2 (![] : Fin 0 → Fin S4096x128x2.rank)
  bcast_S_S4096 : S_.BroadcastsInDim S4096 (![] : Fin 0 → Fin S4096.rank)
  slices_S4096_S4095_0 : S4096.Slices ![0] S4095
  slices_S4096_S4095_1 : S4096.Slices ![1] S4095
  bcast_S_S512x8256 : S_.BroadcastsInDim S512x8256 (![] : Fin 0 → Fin S512x8256.rank)

variable [Facts]

def fn_part1 {F : FTy → Type} [FloatOps F] (main_arg3 : IVec S4096 32) (main_arg4 : FVec F S512x8256 .f32) (main_v2 : IVec S16x64x128x128 1) (main_v7 : IVec S4096x2 1) (main_v12 : IVec S4096x128x2 1) (main_v14 : IVec S4096 1) (main_v16 : IVec S4096 1) : IVec S16x64x128x128 1 × IVec S4096x2 1 × IVec S4096x128x2 1 × IVec S4096 1 × IVec S4095 1 × IVec S512x8256 1 :=
  let main_v17 : IVec S4096 1 := andi main_v14 main_v16
  let main_v18 : IVec S4095 32 := (extractStridedSlice S4095 ![0] · slices_S4096_S4095_0) main_arg3
  let main_v19 : IVec S4095 32 := (extractStridedSlice S4095 ![1] · slices_S4096_S4095_1) main_arg3
  let main_v20 : IVec S4095 1 := cmpi .sle main_v18 main_v19
  let main_v21 : FVec F S512x8256 .f32 := Host.absf main_arg4
  let main_cst_5 : FVec F S_ .f32 := constant S_ .f32 0x7F800000#32
  let main_v22 : FVec F S512x8256 .f32 := broadcastInDim S512x8256 ![] bcast_S_S512x8256 main_cst_5
  let main_v23 : IVec S512x8256 1 := cmpf .olt main_v21 main_v22
  (main_v2, main_v7, main_v12, main_v17, main_v20, main_v23)

def fn {F : FTy → Type} [FloatOps F] (main_arg0 : FVec F S16x64x128x128 .f32) (main_arg1 : FVec F S4096x2 .f32) (main_arg2 : FVec F S4096x128x2 .f32) (main_arg3 : IVec S4096 32) (main_arg4 : FVec F S512x8256 .f32) (main_arg5 : FVec F S256x512 .f32) (main_arg6 : FVec F S256 .f32) : IVec S16x64x128x128 1 × IVec S4096x2 1 × IVec S4096x128x2 1 × IVec S4096 1 × IVec S4095 1 × IVec S512x8256 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_cst_0 : FVec F S_ .f32 := constant S_ .f32 0xBF000000#32
  let main_v3 : FVec F S4096x2 .f32 := broadcastInDim S4096x2 ![] bcast_S_S4096x2 main_cst_0
  let main_v4 : IVec S4096x2 1 := cmpf .oge main_arg1 main_v3
  let main_cst_1 : FVec F S_ .f32 := constant S_ .f32 0x3FC00000#32
  let main_v5 : FVec F S4096x2 .f32 := broadcastInDim S4096x2 ![] bcast_S_S4096x2 main_cst_1
  let main_v6 : IVec S4096x2 1 := cmpf .olt main_arg1 main_v5
  let main_v7 : IVec S4096x2 1 := andi main_v4 main_v6
  let main_cst_2 : FVec F S_ .f32 := constant S_ .f32 0xBF000000#32
  let main_v8 : FVec F S4096x128x2 .f32 := broadcastInDim S4096x128x2 ![] bcast_S_S4096x128x2 main_cst_2
  let main_v9 : IVec S4096x128x2 1 := cmpf .oge main_arg2 main_v8
  let main_cst_3 : FVec F S_ .f32 := constant S_ .f32 0x3FC00000#32
  let main_v10 : FVec F S4096x128x2 .f32 := broadcastInDim S4096x128x2 ![] bcast_S_S4096x128x2 main_cst_3
  let main_v11 : IVec S4096x128x2 1 := cmpf .olt main_arg2 main_v10
  let main_v12 : IVec S4096x128x2 1 := andi main_v9 main_v11
  let main_c : IVec S_ 32 := constantI S_ 32 0#32
  let main_v13 : IVec S4096 32 := broadcastInDim S4096 ![] bcast_S_S4096 main_c
  let main_v14 : IVec S4096 1 := cmpi .sge main_arg3 main_v13
  let main_c_4 : IVec S_ 32 := constantI S_ 32 16#32
  let main_v15 : IVec S4096 32 := broadcastInDim S4096 ![] bcast_S_S4096 main_c_4
  let main_v16 : IVec S4096 1 := cmpi .slt main_arg3 main_v15
  fn_part1 (F := F) main_arg3 main_arg4 main_v2 main_v7 main_v12 main_v14 main_v16
-- ==== Kernel.lean ====
abbrev S16x64x128x128 : Shape := ⟨4, ![16, 64, 128, 128]⟩
abbrev S4096x2 : Shape := ⟨2, ![4096, 2]⟩
abbrev S4096x128x2 : Shape := ⟨3, ![4096, 128, 2]⟩
abbrev S4096 : Shape := ⟨1, ![4096]⟩
abbrev S512x8256 : Shape := ⟨2, ![512, 8256]⟩
abbrev S256x512 : Shape := ⟨2, ![256, 512]⟩
abbrev S256 : Shape := ⟨1, ![256]⟩
abbrev S16x64x2x2 : Shape := ⟨4, ![16, 64, 2, 2]⟩
abbrev S16x2x2x64 : Shape := ⟨4, ![16, 2, 2, 64]⟩
abbrev S64x64 : Shape := ⟨2, ![64, 64]⟩
abbrev S8256x512 : Shape := ⟨2, ![8256, 512]⟩
abbrev S64x66048 : Shape := ⟨2, ![64, 66048]⟩
abbrev S4096x1 : Shape := ⟨2, ![4096, 1]⟩
abbrev S16 : Shape := ⟨1, ![16]⟩
abbrev S16x8192x128 : Shape := ⟨3, ![16, 8192, 128]⟩
abbrev S512x256 : Shape := ⟨2, ![512, 256]⟩
abbrev S1x256 : Shape := ⟨2, ![1, 256]⟩
abbrev S4096x256 : Shape := ⟨2, ![4096, 256]⟩
abbrev S256x2 : Shape := ⟨2, ![256, 2]⟩
abbrev S256x1 : Shape := ⟨2, ![256, 1]⟩
abbrev S256x256 : Shape := ⟨2, ![256, 256]⟩
abbrev S1x8192x128 : Shape := ⟨3, ![1, 8192, 128]⟩
abbrev S16x4x128x512 : Shape := ⟨4, ![16, 4, 128, 512]⟩
abbrev S64x512 : Shape := ⟨2, ![64, 512]⟩
abbrev S64x129x512 : Shape := ⟨3, ![64, 129, 512]⟩
abbrev S64x128x512 : Shape := ⟨3, ![64, 128, 512]⟩
abbrev S64x1x512 : Shape := ⟨3, ![64, 1, 512]⟩
abbrev S256x128 : Shape := ⟨2, ![256, 128]⟩
abbrev S1 : Shape := ⟨1, ![1]⟩
abbrev S1x512 : Shape := ⟨2, ![1, 512]⟩
abbrev S512 : Shape := ⟨1, ![512]⟩
abbrev S1x1x128x512 : Shape := ⟨4, ![1, 1, 128, 512]⟩
abbrev S128x512 : Shape := ⟨2, ![128, 512]⟩

abbrev nBuf : Space → Nat
  | .hbm => 21
  | .vmem => 19
  | .smem => 2
  | _ => 0

abbrev bufTy : (tb : Table) → Fin (tcTables nBuf tb) → BufTy
  | .hbm, ⟨0, _⟩ => ⟨S16x64x128x128, .f32⟩
  | .hbm, ⟨1, _⟩ => ⟨S4096x2, .f32⟩
  | .hbm, ⟨2, _⟩ => ⟨S4096x128x2, .f32⟩
  | .hbm, ⟨3, _⟩ => ⟨S4096, .i32⟩
  | .hbm, ⟨4, _⟩ => ⟨S512x8256, .f32⟩
  | .hbm, ⟨5, _⟩ => ⟨S256x512, .f32⟩
  | .hbm, ⟨6, _⟩ => ⟨S256, .f32⟩
  | .hbm, ⟨7, _⟩ => ⟨S16x64x2x2, .f32⟩
  | .hbm, ⟨8, _⟩ => ⟨S16x2x2x64, .f32⟩
  | .hbm, ⟨9, _⟩ => ⟨S64x64, .f32⟩
  | .hbm, ⟨10, _⟩ => ⟨S8256x512, .f32⟩
  | .hbm, ⟨11, _⟩ => ⟨S64x66048, .f32⟩
  | .hbm, ⟨12, _⟩ => ⟨S4096x1, .i32⟩
  | .hbm, ⟨13, _⟩ => ⟨S16x8192x128, .f32⟩
  | .hbm, ⟨14, _⟩ => ⟨S512x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S16x8192x128, .f32⟩
  | .hbm, ⟨19, _⟩ => ⟨S4096x128x2, .f32⟩
  | .hbm, ⟨20, _⟩ => ⟨S16x64x128x128, .f32⟩
  | .local _ .vmem, ⟨0, _⟩ => ⟨S64x64, .f32⟩
  | .local _ .vmem, ⟨1, _⟩ => ⟨S64x66048, .f32⟩
  | .local _ .vmem, ⟨2, _⟩ => ⟨S256x2, .f32⟩
  | .local _ .vmem, ⟨3, _⟩ => ⟨S256x2, .f32⟩
  | .local _ .vmem, ⟨4, _⟩ => ⟨S256x1, .i32⟩
  | .local _ .vmem, ⟨5, _⟩ => ⟨S256x1, .i32⟩
  | .local _ .vmem, ⟨6, _⟩ => ⟨S512x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | .local _ .vmem, ⟨10, _⟩ => ⟨S1x8192x128, .f32⟩
  | .local _ .vmem, ⟨11, _⟩ => ⟨S1x8192x128, .f32⟩
  | .local _ .vmem, ⟨12, _⟩ => ⟨S256x256, .f32⟩
  | .local _ .vmem, ⟨13, _⟩ => ⟨S256x256, .f32⟩
  | .local _ .vmem, ⟨14, _⟩ => ⟨S1x8192x128, .f32⟩
  | .local _ .vmem, ⟨15, _⟩ => ⟨S1x8192x128, .f32⟩
  | .local _ .vmem, ⟨16, _⟩ => ⟨S16x4x128x512, .f32⟩
  | .local _ .vmem, ⟨17, _⟩ => ⟨S64x512, .f32⟩
  | .local _ .vmem, ⟨18, _⟩ => ⟨S256x512, .f32⟩
  | .local _ .smem, ⟨0, _⟩ => ⟨S16, .i32⟩
  | .local _ .smem, ⟨1, _⟩ => ⟨S16, .i32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v13 : Ref sig .tc := ⟨.hbm, 19, rfl⟩
abbrev main_v14 : Ref sig .tc := ⟨.hbm, 20, rfl⟩
abbrev main_v6 : Ref sig .tc := ⟨.smem, 0, rfl⟩
abbrev main_v7 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_v6.idx, main_v7.idx], fun | 0 => main_v6.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v61 : Index := Scalar.indexCast arg0
  ![v61.toNat]
@[reducible] def k0_t1_loop (v62 : BitVec 32) (v64 : BitVec 32) : Scf.Loop 32 :=
  let c1_i32_29 : BitVec 32 := 1#32
  let v65 : BitVec 32 := Scalar.addi v64 c1_i32_29
  let v66 : BitVec 32 := Scalar.subi v65 v62
  let c1_i32_31 : BitVec 32 := 1#32
  let v68 : BitVec 32 := Scalar.divsi v66 c1_i32_31
  let v69 : BitVec 32 := Scalar.muli v68 c1_i32_31
  let v70 : BitVec 32 := Scalar.addi v62 v69
  let c1_i32_32 : BitVec 32 := 1#32
  ⟨v62, v70, c1_i32_32⟩

def k0_off2 (v62 : BitVec 32) (v64 : BitVec 32) (k0_t1 : Fin (k0_t1_loop v62 v64).trips) : Fin 2 → Nat :=
  let c4_i32 : BitVec 32 := 4#32
  let c1_i32_32 : BitVec 32 := 1#32
  let arg16 : BitVec 32 := Scf.iv v62 c1_i32_32 k0_t1
  let v94 : BitVec 32 := Scalar.muli c4_i32 arg16
  let v95 : Index := Scalar.indexCast v94
  let c0_46 : Index := 0#32
  ![v95.toNat, 0]
def k0_off3 (v62 : BitVec 32) (v64 : BitVec 32) (k0_t1 : Fin (k0_t1_loop v62 v64).trips) (c1_i32_48 : BitVec 32) : Fin 2 → Nat :=
  let c4_i32_47 : BitVec 32 := 4#32
  let c1_i32_32 : BitVec 32 := 1#32
  let arg16 : BitVec 32 := Scf.iv v62 c1_i32_32 k0_t1
  let v103 : BitVec 32 := Scalar.muli c4_i32_47 arg16
  let v104 : BitVec 32 := Scalar.addi v103 c1_i32_48
  let v105 : Index := Scalar.indexCast v104
  let c0_49 : Index := 0#32
  ![v105.toNat, 0]
def k0_off4 (v62 : BitVec 32) (v64 : BitVec 32) (k0_t1 : Fin (k0_t1_loop v62 v64).trips) : Fin 4 → Nat :=
  let c1_i32_32 : BitVec 32 := 1#32
  let arg16 : BitVec 32 := Scf.iv v62 c1_i32_32 k0_t1
  let v137 : Index := Scalar.indexCast arg16
  let c0_57 : Index := 0#32
  let c0_58 : Index := 0#32
  let c0_59 : Index := 0#32
  ![v137.toNat, 0, 0, 0]
def k0_off5 (v62 : BitVec 32) (v64 : BitVec 32) (k0_t1 : Fin (k0_t1_loop v62 v64).trips) : Fin 4 → Nat :=
  let c1_i32_32 : BitVec 32 := 1#32
  let arg16 : BitVec 32 := Scf.iv v62 c1_i32_32 k0_t1
  let v142 : Index := Scalar.indexCast arg16
  let c1 : Index := 1#32
  let c0_61 : Index := 0#32
  let c0_62 : Index := 0#32
  ![v142.toNat, 1, 0, 0]
def k0_off6 (v62 : BitVec 32) (v64 : BitVec 32) (k0_t1 : Fin (k0_t1_loop v62 v64).trips) : Fin 4 → Nat :=
  let c1_i32_32 : BitVec 32 := 1#32
  let arg16 : BitVec 32 := Scf.iv v62 c1_i32_32 k0_t1
  let v148 : Index := Scalar.indexCast arg16
  let c2 : Index := 2#32
  let c0_64 : Index := 0#32
  let c0_65 : Index := 0#32
  ![v148.toNat, 2, 0, 0]
def k0_off7 (v62 : BitVec 32) (v64 : BitVec 32) (k0_t1 : Fin (k0_t1_loop v62 v64).trips) : Fin 4 → Nat :=
  let c1_i32_32 : BitVec 32 := 1#32
  let arg16 : BitVec 32 := Scf.iv v62 c1_i32_32 k0_t1
  let v154 : Index := Scalar.indexCast arg16
  let c3 : Index := 3#32
  let c0_67 : Index := 0#32
  let c0_68 : Index := 0#32
  ![v154.toNat, 3, 0, 0]
@[reducible] def k0_t2_loop (v62 : BitVec 32) (v64 : BitVec 32) : Scf.Loop 32 :=
  let c1_i32_29 : BitVec 32 := 1#32
  let v65 : BitVec 32 := Scalar.addi v64 c1_i32_29
  let v66 : BitVec 32 := Scalar.subi v65 v62
  let c1_i32_31 : BitVec 32 := 1#32
  let v68 : BitVec 32 := Scalar.divsi v66 c1_i32_31
  let v69 : BitVec 32 := Scalar.muli v68 c1_i32_31
  let v70 : BitVec 32 := Scalar.addi v62 v69
  let v67 : BitVec 32 := Scalar.addi v62 v66
  let c1_i32_33 : BitVec 32 := 1#32
  ⟨v70, v67, c1_i32_33⟩
def k0_off8 (v62 : BitVec 32) (v64 : BitVec 32) (k0_t2 : Fin (k0_t2_loop v62 v64).trips) : Fin 2 → Nat :=
  let c4_i32 : BitVec 32 := 4#32
  let c1_i32_29 : BitVec 32 := 1#32
  let v65 : BitVec 32 := Scalar.addi v64 c1_i32_29
  let v66 : BitVec 32 := Scalar.subi v65 v62
  let c1_i32_31 : BitVec 32 := 1#32
  let v68 : BitVec 32 := Scalar.divsi v66 c1_i32_31
  let v69 : BitVec 32 := Scalar.muli v68 c1_i32_31
  let v70 : BitVec 32 := Scalar.addi v62 v69
  let c1_i32_33 : BitVec 32 := 1#32
  let arg16 : BitVec 32 := Scf.iv v70 c1_i32_33 k0_t2
  let v94 : BitVec 32 := Scalar.muli c4_i32 arg16
  let v95 : Index := Scalar.indexCast v94
  let c0_46 : Index := 0#32
  ![v95.toNat, 0]
def k0_off9 (v62 : BitVec 32) (v64 : BitVec 32) (k0_t2 : Fin (k0_t2_loop v62 v64).trips) (c1_i32_48 : BitVec 32) : Fin 2 → Nat :=
  let c4_i32_47 : BitVec 32 := 4#32
  let c1_i32_29 : BitVec 32 := 1#32
  let v65 : BitVec 32 := Scalar.addi v64 c1_i32_29
  let v66 : BitVec 32 := Scalar.subi v65 v62
  let c1_i32_31 : BitVec 32 := 1#32
  let v68 : BitVec 32 := Scalar.divsi v66 c1_i32_31
  let v69 : BitVec 32 := Scalar.muli v68 c1_i32_31
  let v70 : BitVec 32 := Scalar.addi v62 v69
  let c1_i32_33 : BitVec 32 := 1#32
  let arg16 : BitVec 32 := Scf.iv v70 c1_i32_33 k0_t2
  let v103 : BitVec 32 := Scalar.muli c4_i32_47 arg16
  let v104 : BitVec 32 := Scalar.addi v103 c1_i32_48
  let v105 : Index := Scalar.indexCast v104
  let c0_49 : Index := 0#32
  ![v105.toNat, 0]
def k0_off10 (v62 : BitVec 32) (v64 : BitVec 32) (k0_t2 : Fin (k0_t2_loop v62 v64).trips) : Fin 4 → Nat :=
  let c1_i32_29 : BitVec 32 := 1#32
  let v65 : BitVec 32 := Scalar.addi v64 c1_i32_29
  let v66 : BitVec 32 := Scalar.subi v65 v62
  let c1_i32_31 : BitVec 32 := 1#32
  let v68 : BitVec 32 := Scalar.divsi v66 c1_i32_31
  let v69 : BitVec 32 := Scalar.muli v68 c1_i32_31
  let v70 : BitVec 32 := Scalar.addi v62 v69
  let c1_i32_33 : BitVec 32 := 1#32
  let arg16 : BitVec 32 := Scf.iv v70 c1_i32_33 k0_t2
  let v137 : Index := Scalar.indexCast arg16
  let c0_57 : Index := 0#32
  let c0_58 : Index := 0#32
  let c0_59 : Index := 0#32
  ![v137.toNat, 0, 0, 0]
def k0_off11 (v62 : BitVec 32) (v64 : BitVec 32) (k0_t2 : Fin (k0_t2_loop v62 v64).trips) : Fin 4 → Nat :=
  let c1_i32_29 : BitVec 32 := 1#32
  let v65 : BitVec 32 := Scalar.addi v64 c1_i32_29
  let v66 : BitVec 32 := Scalar.subi v65 v62
  let c1_i32_31 : BitVec 32 := 1#32
  let v68 : BitVec 32 := Scalar.divsi v66 c1_i32_31
  let v69 : BitVec 32 := Scalar.muli v68 c1_i32_31
  let v70 : BitVec 32 := Scalar.addi v62 v69
  let c1_i32_33 : BitVec 32 := 1#32
  let arg16 : BitVec 32 := Scf.iv v70 c1_i32_33 k0_t2
  let v142 : Index := Scalar.indexCast arg16
  let c1 : Index := 1#32
  let c0_61 : Index := 0#32
  let c0_62 : Index := 0#32
  ![v142.toNat, 1, 0, 0]
def k0_off12 (v62 : BitVec 32) (v64 : BitVec 32) (k0_t2 : Fin (k0_t2_loop v62 v64).trips) : Fin 4 → Nat :=
  let c1_i32_29 : BitVec 32 := 1#32
  let v65 : BitVec 32 := Scalar.addi v64 c1_i32_29
  let v66 : BitVec 32 := Scalar.subi v65 v62
  let c1_i32_31 : BitVec 32 := 1#32
  let v68 : BitVec 32 := Scalar.divsi v66 c1_i32_31
  let v69 : BitVec 32 := Scalar.muli v68 c1_i32_31
  let v70 : BitVec 32 := Scalar.addi v62 v69
  let c1_i32_33 : BitVec 32 := 1#32
  let arg16 : BitVec 32 := Scf.iv v70 c1_i32_33 k0_t2
  let v148 : Index := Scalar.indexCast arg16
  let c2 : Index := 2#32
  let c0_64 : Index := 0#32
  let c0_65 : Index := 0#32
  ![v148.toNat, 2, 0, 0]
def k0_off13 (v62 : BitVec 32) (v64 : BitVec 32) (k0_t2 : Fin (k0_t2_loop v62 v64).trips) : Fin 4 → Nat :=
  let c1_i32_29 : BitVec 32 := 1#32
  let v65 : BitVec 32 := Scalar.addi v64 c1_i32_29
  let v66 : BitVec 32 := Scalar.subi v65 v62
  let c1_i32_31 : BitVec 32 := 1#32
  let v68 : BitVec 32 := Scalar.divsi v66 c1_i32_31
  let v69 : BitVec 32 := Scalar.muli v68 c1_i32_31
  let v70 : BitVec 32 := Scalar.addi v62 v69
  let c1_i32_33 : BitVec 32 := 1#32
  let arg16 : BitVec 32 := Scf.iv v70 c1_i32_33 k0_t2
  let v154 : Index := Scalar.indexCast arg16
  let c3 : Index := 3#32
  let c0_67 : Index := 0#32
  let c0_68 : Index := 0#32
  ![v154.toNat, 3, 0, 0]

def k0_chk1 (v62 : BitVec 32) (v64 : BitVec 32) : Prop :=
  ((k0_t1_loop v62 v64).OK) ∧
  (∀ k0_t1 : Fin (k0_t1_loop v62 v64).trips, ∀ a, (k0_off2 v62 v64 k0_t1) a + S1x512.size a ≤ S64x512.size a) ∧
  (∀ k0_t1 : Fin (k0_t1_loop v62 v64).trips, ∀ (r : Fin 3), ∀ a, (k0_off3 v62 v64 k0_t1 (BitVec.ofNat 32 (1 + r.val))) a + S1x512.size a ≤ S64x512.size a) ∧
  (∀ k0_t1 : Fin (k0_t1_loop v62 v64).trips, ∀ a, (k0_off4 v62 v64 k0_t1) a + S1x1x128x512.size a ≤ S16x4x128x512.size a) ∧
  (∀ k0_t1 : Fin (k0_t1_loop v62 v64).trips, ∀ a, (k0_off5 v62 v64 k0_t1) a + S1x1x128x512.size a ≤ S16x4x128x512.size a) ∧
  (∀ k0_t1 : Fin (k0_t1_loop v62 v64).trips, ∀ a, (k0_off6 v62 v64 k0_t1) a + S1x1x128x512.size a ≤ S16x4x128x512.size a) ∧
  (∀ k0_t1 : Fin (k0_t1_loop v62 v64).trips, ∀ a, (k0_off7 v62 v64 k0_t1) a + S1x1x128x512.size a ≤ S16x4x128x512.size a) ∧
  ((k0_t2_loop v62 v64).OK) ∧
  (∀ k0_t2 : Fin (k0_t2_loop v62 v64).trips, ∀ a, (k0_off8 v62 v64 k0_t2) a + S1x512.size a ≤ S64x512.size a) ∧
  (∀ k0_t2 : Fin (k0_t2_loop v62 v64).trips, ∀ (r : Fin 3), ∀ a, (k0_off9 v62 v64 k0_t2 (BitVec.ofNat 32 (1 + r.val))) a + S1x512.size a ≤ S64x512.size a) ∧
  (∀ k0_t2 : Fin (k0_t2_loop v62 v64).trips, ∀ a, (k0_off10 v62 v64 k0_t2) a + S1x1x128x512.size a ≤ S16x4x128x512.size a) ∧
  (∀ k0_t2 : Fin (k0_t2_loop v62 v64).trips, ∀ a, (k0_off11 v62 v64 k0_t2) a + S1x1x128x512.size a ≤ S16x4x128x512.size a) ∧
  (∀ k0_t2 : Fin (k0_t2_loop v62 v64).trips, ∀ a, (k0_off12 v62 v64 k0_t2) a + S1x1x128x512.size a ≤ S16x4x128x512.size a) ∧
  (∀ k0_t2 : Fin (k0_t2_loop v62 v64).trips, ∀ a, (k0_off13 v62 v64 k0_t2) a + S1x1x128x512.size a ≤ S16x4x128x512.size a)
theorem k0_t1_ok : ∀ (v62 : BitVec 32) (v64 : BitVec 32) (k0_hw1 : k0_chk1 v62 v64), (k0_t1_loop v62 v64).OK := fun v62 v64 k0_hw1 => k0_hw1.1
theorem k0_off2_inb : ∀ (v62 : BitVec 32) (v64 : BitVec 32) (k0_hw1 : k0_chk1 v62 v64) (k0_t1 : Fin (k0_t1_loop v62 v64).trips), ∀ a, (k0_off2 v62 v64 k0_t1) a + S1x512.size a ≤ S64x512.size a := fun v62 v64 k0_hw1 k0_t1 => k0_hw1.2.1 k0_t1
theorem k0_off3_inb : ∀ (v62 : BitVec 32) (v64 : BitVec 32) (k0_hw1 : k0_chk1 v62 v64) (k0_t1 : Fin (k0_t1_loop v62 v64).trips), ∀ (r : Fin 3), ∀ a, (k0_off3 v62 v64 k0_t1 (BitVec.ofNat 32 (1 + r.val))) a + S1x512.size a ≤ S64x512.size a := fun v62 v64 k0_hw1 k0_t1 r => k0_hw1.2.2.1 k0_t1 r
theorem k0_off4_inb : ∀ (v62 : BitVec 32) (v64 : BitVec 32) (k0_hw1 : k0_chk1 v62 v64) (k0_t1 : Fin (k0_t1_loop v62 v64).trips), ∀ a, (k0_off4 v62 v64 k0_t1) a + S1x1x128x512.size a ≤ S16x4x128x512.size a := fun v62 v64 k0_hw1 k0_t1 => k0_hw1.2.2.2.1 k0_t1
theorem k0_off5_inb : ∀ (v62 : BitVec 32) (v64 : BitVec 32) (k0_hw1 : k0_chk1 v62 v64) (k0_t1 : Fin (k0_t1_loop v62 v64).trips), ∀ a, (k0_off5 v62 v64 k0_t1) a + S1x1x128x512.size a ≤ S16x4x128x512.size a := fun v62 v64 k0_hw1 k0_t1 => k0_hw1.2.2.2.2.1 k0_t1
theorem k0_off6_inb : ∀ (v62 : BitVec 32) (v64 : BitVec 32) (k0_hw1 : k0_chk1 v62 v64) (k0_t1 : Fin (k0_t1_loop v62 v64).trips), ∀ a, (k0_off6 v62 v64 k0_t1) a + S1x1x128x512.size a ≤ S16x4x128x512.size a := fun v62 v64 k0_hw1 k0_t1 => k0_hw1.2.2.2.2.2.1 k0_t1
theorem k0_off7_inb : ∀ (v62 : BitVec 32) (v64 : BitVec 32) (k0_hw1 : k0_chk1 v62 v64) (k0_t1 : Fin (k0_t1_loop v62 v64).trips), ∀ a, (k0_off7 v62 v64 k0_t1) a + S1x1x128x512.size a ≤ S16x4x128x512.size a := fun v62 v64 k0_hw1 k0_t1 => k0_hw1.2.2.2.2.2.2.1 k0_t1
theorem k0_t2_ok : ∀ (v62 : BitVec 32) (v64 : BitVec 32) (k0_hw1 : k0_chk1 v62 v64), (k0_t2_loop v62 v64).OK := fun v62 v64 k0_hw1 => k0_hw1.2.2.2.2.2.2.2.1
theorem k0_off8_inb : ∀ (v62 : BitVec 32) (v64 : BitVec 32) (k0_hw1 : k0_chk1 v62 v64) (k0_t2 : Fin (k0_t2_loop v62 v64).trips), ∀ a, (k0_off8 v62 v64 k0_t2) a + S1x512.size a ≤ S64x512.size a := fun v62 v64 k0_hw1 k0_t2 => k0_hw1.2.2.2.2.2.2.2.2.1 k0_t2
theorem k0_off9_inb : ∀ (v62 : BitVec 32) (v64 : BitVec 32) (k0_hw1 : k0_chk1 v62 v64) (k0_t2 : Fin (k0_t2_loop v62 v64).trips), ∀ (r : Fin 3), ∀ a, (k0_off9 v62 v64 k0_t2 (BitVec.ofNat 32 (1 + r.val))) a + S1x512.size a ≤ S64x512.size a := fun v62 v64 k0_hw1 k0_t2 r => k0_hw1.2.2.2.2.2.2.2.2.2.1 k0_t2 r
theorem k0_off10_inb : ∀ (v62 : BitVec 32) (v64 : BitVec 32) (k0_hw1 : k0_chk1 v62 v64) (k0_t2 : Fin (k0_t2_loop v62 v64).trips), ∀ a, (k0_off10 v62 v64 k0_t2) a + S1x1x128x512.size a ≤ S16x4x128x512.size a := fun v62 v64 k0_hw1 k0_t2 => k0_hw1.2.2.2.2.2.2.2.2.2.2.1 k0_t2
theorem k0_off11_inb : ∀ (v62 : BitVec 32) (v64 : BitVec 32) (k0_hw1 : k0_chk1 v62 v64) (k0_t2 : Fin (k0_t2_loop v62 v64).trips), ∀ a, (k0_off11 v62 v64 k0_t2) a + S1x1x128x512.size a ≤ S16x4x128x512.size a := fun v62 v64 k0_hw1 k0_t2 => k0_hw1.2.2.2.2.2.2.2.2.2.2.2.1 k0_t2
theorem k0_off12_inb : ∀ (v62 : BitVec 32) (v64 : BitVec 32) (k0_hw1 : k0_chk1 v62 v64) (k0_t2 : Fin (k0_t2_loop v62 v64).trips), ∀ a, (k0_off12 v62 v64 k0_t2) a + S1x1x128x512.size a ≤ S16x4x128x512.size a := fun v62 v64 k0_hw1 k0_t2 => k0_hw1.2.2.2.2.2.2.2.2.2.2.2.2.1 k0_t2
theorem k0_off13_inb : ∀ (v62 : BitVec 32) (v64 : BitVec 32) (k0_hw1 : k0_chk1 v62 v64) (k0_t2 : Fin (k0_t2_loop v62 v64).trips), ∀ a, (k0_off13 v62 v64 k0_t2) a + S1x1x128x512.size a ≤ S16x4x128x512.size a := fun v62 v64 k0_hw1 k0_t2 => k0_hw1.2.2.2.2.2.2.2.2.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x66048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16x64x128x128 : Shape := ⟨4, ![16, 64, 128, 128]⟩
abbrev S4096x2 : Shape := ⟨2, ![4096, 2]⟩
abbrev S4096x128x2 : Shape := ⟨3, ![4096, 128, 2]⟩
abbrev S4096 : Shape := ⟨1, ![4096]⟩
abbrev S512x8256 : Shape := ⟨2, ![512, 8256]⟩
abbrev S256x512 : Shape := ⟨2, ![256, 512]⟩
abbrev S256 : Shape := ⟨1, ![256]⟩
abbrev S4096x1x2 : Shape := ⟨3, ![4096, 1, 2]⟩
abbrev S4096x129x2 : Shape := ⟨3, ![4096, 129, 2]⟩
abbrev S16x128x128x64 : Shape := ⟨4, ![16, 128, 128, 64]⟩
abbrev S4096x129x1 : Shape := ⟨3, ![4096, 129, 1]⟩
abbrev S4096x129 : Shape := ⟨2, ![4096, 129]⟩
abbrev S_ : Shape := ⟨0, ![]⟩
abbrev S4096x1 : Shape := ⟨2, ![4096, 1]⟩
abbrev S4096x129x3 : Shape := ⟨3, ![4096, 129, 3]⟩
abbrev S4096x129x64 : Shape := ⟨3, ![4096, 129, 64]⟩
abbrev S4096x64x129 : Shape := ⟨3, ![4096, 64, 129]⟩
abbrev S4096x8256 : Shape := ⟨2, ![4096, 8256]⟩
abbrev S8256x512 : Shape := ⟨2, ![8256, 512]⟩
abbrev S4096x512 : Shape := ⟨2, ![4096, 512]⟩
abbrev S512x256 : Shape := ⟨2, ![512, 256]⟩
abbrev S4096x256 : Shape := ⟨2, ![4096, 256]⟩
abbrev S1x256 : Shape := ⟨2, ![1, 256]⟩

abbrev nBuf : Space → Nat
  | .hbm => 348
  | .vmem => 0
  | .smem => 0
  | _ => 0

abbrev hbmTy0_0 (i : Nat) : BufTy := match i % 128 with
  | 0 => ⟨S16x64x128x128, .f32⟩
  | 1 => ⟨S4096x2, .f32⟩
  | 2 => ⟨S4096x128x2, .f32⟩
  | 3 => ⟨S4096, .i32⟩
  | 4 => ⟨S512x8256, .f32⟩
  | 5 => ⟨S256x512, .f32⟩
  | 6 => ⟨S256, .f32⟩
  | 7 => ⟨S4096x1x2, .f32⟩
  | 8 => ⟨S4096x129x2, .f32⟩
  | 9 => ⟨S16x128x128x64, .f32⟩
  | 10 => ⟨S4096x129x1, .f32⟩
  | 11 => ⟨S4096x129, .f32⟩
  | 12 => ⟨S_, .f32⟩
  | 13 => ⟨S4096x129, .f32⟩
  | 14 => ⟨S4096x129, .f32⟩
  | 15 => ⟨S_, .f32⟩
  | 16 => ⟨S4096x129, .f32⟩
  | 17 => ⟨S4096x129, .f32⟩
  | 18 => ⟨S4096x129x1, .f32⟩
  | 19 => ⟨S4096x129, .f32⟩
  | 20 => ⟨S_, .f32⟩
  | 21 => ⟨S4096x129, .f32⟩
  | 22 => ⟨S4096x129, .f32⟩
  | 23 => ⟨S_, .f32⟩
  | 24 => ⟨S4096x129, .f32⟩
  | 25 => ⟨S4096x129, .f32⟩
  | 26 => ⟨S_, .f32⟩
  | 27 => ⟨S4096x129, .f32⟩
  | 28 => ⟨S4096x129, .f32⟩
  | 29 => ⟨S_, .f32⟩
  | 30 => ⟨S4096x129, .f32⟩
  | 31 => ⟨S4096x129, .f32⟩
  | 32 => ⟨S_, .f32⟩
  | 33 => ⟨S4096x129, .f32⟩
  | 34 => ⟨S4096x129, .f32⟩
  | 35 => ⟨S_, .f32⟩
  | 36 => ⟨S4096x129, .f32⟩
  | 37 => ⟨S4096x129, .f32⟩
  | 38 => ⟨S_, .f32⟩
  | 39 => ⟨S4096x129, .f32⟩
  | 40 => ⟨S4096x129, .f32⟩
  | 41 => ⟨S_, .f32⟩
  | 42 => ⟨S4096x129, .f32⟩
  | 43 => ⟨S4096x129, .f32⟩
  | 44 => ⟨S_, .f32⟩
  | 45 => ⟨S4096x129, .f32⟩
  | 46 => ⟨S4096x129, .f32⟩
  | 47 => ⟨S_, .f32⟩
  | 48 => ⟨S4096x129, .f32⟩
  | 49 => ⟨S4096x129, .f32⟩
  | 50 => ⟨S4096x129, .f32⟩
  | 51 => ⟨S4096x129, .f32⟩
  | 52 => ⟨S_, .f32⟩
  | 53 => ⟨S4096x129, .f32⟩
  | 54 => ⟨S4096x129, .f32⟩
  | 55 => ⟨S_, .f32⟩
  | 56 => ⟨S4096x129, .f32⟩
  | 57 => ⟨S4096x129, .f32⟩
  | 58 => ⟨S4096x129, .f32⟩
  | 59 => ⟨S_, .f32⟩
  | 60 => ⟨S4096x129, .f32⟩
  | 61 => ⟨S4096x129, .f32⟩
  | 62 => ⟨S4096x129, .f32⟩
  | 63 => ⟨S_, .f32⟩
  | 64 => ⟨S4096x129, .f32⟩
  | 65 => ⟨S4096x129, .f32⟩
  | 66 => ⟨S4096x1, .i32⟩
  | 67 => ⟨S4096x129, .f32⟩
  | 68 => ⟨S_, .f32⟩
  | 69 => ⟨S4096x129, .f32⟩
  | 70 => ⟨S4096x129, .i1⟩
  | 71 => ⟨S_, .f32⟩
  | 72 => ⟨S4096x129, .f32⟩
  | 73 => ⟨S4096x129, .i1⟩
  | 74 => ⟨S4096x129, .i1⟩
  | 75 => ⟨S_, .f32⟩
  | 76 => ⟨S4096x129, .f32⟩
  | 77 => ⟨S4096x129, .i1⟩
  | 78 => ⟨S4096x129, .i1⟩
  | 79 => ⟨S_, .f32⟩
  | 80 => ⟨S4096x129, .f32⟩
  | 81 => ⟨S4096x129, .i1⟩
  | 82 => ⟨S4096x129, .i1⟩
  | 83 => ⟨S_, .i32⟩
  | 84 => ⟨S_, .i32⟩
  | 85 => ⟨S_, .f32⟩
  | 86 => ⟨S4096x129, .f32⟩
  | 87 => ⟨S4096x129, .f32⟩
  | 88 => ⟨S_, .f32⟩
  | 89 => ⟨S4096x129, .f32⟩
  | 90 => ⟨S4096x129, .f32⟩
  | 91 => ⟨S4096x129, .i32⟩
  | 92 => ⟨S_, .i32⟩
  | 93 => ⟨S_, .i32⟩
  | 94 => ⟨S_, .f32⟩
  | 95 => ⟨S4096x129, .f32⟩
  | 96 => ⟨S4096x129, .f32⟩
  | 97 => ⟨S_, .f32⟩
  | 98 => ⟨S4096x129, .f32⟩
  | 99 => ⟨S4096x129, .f32⟩
  | 100 => ⟨S4096x129, .i32⟩
  | 101 => ⟨S_, .i32⟩
  | 102 => ⟨S4096x1, .i32⟩
  | 103 => ⟨S4096x1, .i1⟩
  | 104 => ⟨S_, .i32⟩
  | 105 => ⟨S4096x1, .i32⟩
  | 106 => ⟨S4096x1, .i32⟩
  | 107 => ⟨S4096x1, .i32⟩
  | 108 => ⟨S_, .i32⟩
  | 109 => ⟨S4096x129, .i32⟩
  | 110 => ⟨S4096x129, .i1⟩
  | 111 => ⟨S_, .i32⟩
  | 112 => ⟨S4096x129, .i32⟩
  | 113 => ⟨S4096x129, .i32⟩
  | 114 => ⟨S4096x129, .i32⟩
  | 115 => ⟨S_, .i32⟩
  | 116 => ⟨S4096x129, .i32⟩
  | 117 => ⟨S4096x129, .i1⟩
  | 118 => ⟨S_, .i32⟩
  | 119 => ⟨S4096x129, .i32⟩
  | 120 => ⟨S4096x129, .i32⟩
  | 121 => ⟨S4096x129, .i32⟩
  | 122 => ⟨S4096x129, .i32⟩
  | 123 => ⟨S4096x129x1, .i32⟩
  | 124 => ⟨S4096x129x1, .i32⟩
  | 125 => ⟨S4096x129x1, .i32⟩
  | 126 => ⟨S4096x129x3, .i32⟩
  | 127 => ⟨S4096x129x64, .f32⟩
  | _ => ⟨S16x64x128x128, .f32⟩

abbrev hbmTy0_1 (i : Nat) : BufTy := match i % 128 with
  | 0 => ⟨S4096x129, .f32⟩
  | 1 => ⟨S4096x129, .f32⟩
  | 2 => ⟨S4096x129x1, .f32⟩
  | 3 => ⟨S4096x129x64, .f32⟩
  | 4 => ⟨S4096x129x64, .f32⟩
  | 5 => ⟨S4096x129, .f32⟩
  | 6 => ⟨S_, .f32⟩
  | 7 => ⟨S4096x129, .f32⟩
  | 8 => ⟨S4096x129, .i1⟩
  | 9 => ⟨S_, .f32⟩
  | 10 => ⟨S4096x129, .f32⟩
  | 11 => ⟨S4096x129, .i1⟩
  | 12 => ⟨S4096x129, .i1⟩
  | 13 => ⟨S_, .f32⟩
  | 14 => ⟨S4096x129, .f32⟩
  | 15 => ⟨S4096x129, .i1⟩
  | 16 => ⟨S4096x129, .i1⟩
  | 17 => ⟨S_, .f32⟩
  | 18 => ⟨S4096x129, .f32⟩
  | 19 => ⟨S4096x129, .i1⟩
  | 20 => ⟨S4096x129, .i1⟩
  | 21 => ⟨S_, .i32⟩
  | 22 => ⟨S_, .i32⟩
  | 23 => ⟨S_, .f32⟩
  | 24 => ⟨S4096x129, .f32⟩
  | 25 => ⟨S4096x129, .f32⟩
  | 26 => ⟨S_, .f32⟩
  | 27 => ⟨S4096x129, .f32⟩
  | 28 => ⟨S4096x129, .f32⟩
  | 29 => ⟨S4096x129, .i32⟩
  | 30 => ⟨S_, .i32⟩
  | 31 => ⟨S_, .i32⟩
  | 32 => ⟨S_, .f32⟩
  | 33 => ⟨S4096x129, .f32⟩
  | 34 => ⟨S4096x129, .f32⟩
  | 35 => ⟨S_, .f32⟩
  | 36 => ⟨S4096x129, .f32⟩
  | 37 => ⟨S4096x129, .f32⟩
  | 38 => ⟨S4096x129, .i32⟩
  | 39 => ⟨S_, .i32⟩
  | 40 => ⟨S4096x1, .i32⟩
  | 41 => ⟨S4096x1, .i1⟩
  | 42 => ⟨S_, .i32⟩
  | 43 => ⟨S4096x1, .i32⟩
  | 44 => ⟨S4096x1, .i32⟩
  | 45 => ⟨S4096x1, .i32⟩
  | 46 => ⟨S_, .i32⟩
  | 47 => ⟨S4096x129, .i32⟩
  | 48 => ⟨S4096x129, .i1⟩
  | 49 => ⟨S_, .i32⟩
  | 50 => ⟨S4096x129, .i32⟩
  | 51 => ⟨S4096x129, .i32⟩
  | 52 => ⟨S4096x129, .i32⟩
  | 53 => ⟨S_, .i32⟩
  | 54 => ⟨S4096x129, .i32⟩
  | 55 => ⟨S4096x129, .i1⟩
  | 56 => ⟨S_, .i32⟩
  | 57 => ⟨S4096x129, .i32⟩
  | 58 => ⟨S4096x129, .i32⟩
  | 59 => ⟨S4096x129, .i32⟩
  | 60 => ⟨S4096x129, .i32⟩
  | 61 => ⟨S4096x129x1, .i32⟩
  | 62 => ⟨S4096x129x1, .i32⟩
  | 63 => ⟨S4096x129x1, .i32⟩
  | 64 => ⟨S4096x129x3, .i32⟩
  | 65 => ⟨S4096x129x64, .f32⟩
  | 66 => ⟨S4096x129, .f32⟩
  | 67 => ⟨S4096x129, .f32⟩
  | 68 => ⟨S4096x129x1, .f32⟩
  | 69 => ⟨S4096x129x64, .f32⟩
  | 70 => ⟨S4096x129x64, .f32⟩
  | 71 => ⟨S4096x129x64, .f32⟩
  | 72 => ⟨S4096x129, .f32⟩
  | 73 => ⟨S_, .f32⟩
  | 74 => ⟨S4096x129, .f32⟩
  | 75 => ⟨S4096x129, .i1⟩
  | 76 => ⟨S_, .f32⟩
  | 77 => ⟨S4096x129, .f32⟩
  | 78 => ⟨S4096x129, .i1⟩
  | 79 => ⟨S4096x129, .i1⟩
  | 80 => ⟨S_, .f32⟩
  | 81 => ⟨S4096x129, .f32⟩
  | 82 => ⟨S4096x129, .i1⟩
  | 83 => ⟨S4096x129, .i1⟩
  | 84 => ⟨S_, .f32⟩
  | 85 => ⟨S4096x129, .f32⟩
  | 86 => ⟨S4096x129, .i1⟩
  | 87 => ⟨S4096x129, .i1⟩
  | 88 => ⟨S_, .i32⟩
  | 89 => ⟨S_, .i32⟩
  | 90 => ⟨S_, .f32⟩
  | 91 => ⟨S4096x129, .f32⟩
  | 92 => ⟨S4096x129, .f32⟩
  | 93 => ⟨S_, .f32⟩
  | 94 => ⟨S4096x129, .f32⟩
  | 95 => ⟨S4096x129, .f32⟩
  | 96 => ⟨S4096x129, .i32⟩
  | 97 => ⟨S_, .i32⟩
  | 98 => ⟨S_, .i32⟩
  | 99 => ⟨S_, .f32⟩
  | 100 => ⟨S4096x129, .f32⟩
  | 101 => ⟨S4096x129, .f32⟩
  | 102 => ⟨S_, .f32⟩
  | 103 => ⟨S4096x129, .f32⟩
  | 104 => ⟨S4096x129, .f32⟩
  | 105 => ⟨S4096x129, .i32⟩
  | 106 => ⟨S_, .i32⟩
  | 107 => ⟨S4096x1, .i32⟩
  | 108 => ⟨S4096x1, .i1⟩
  | 109 => ⟨S_, .i32⟩
  | 110 => ⟨S4096x1, .i32⟩
  | 111 => ⟨S4096x1, .i32⟩
  | 112 => ⟨S4096x1, .i32⟩
  | 113 => ⟨S_, .i32⟩
  | 114 => ⟨S4096x129, .i32⟩
  | 115 => ⟨S4096x129, .i1⟩
  | 116 => ⟨S_, .i32⟩
  | 117 => ⟨S4096x129, .i32⟩
  | 118 => ⟨S4096x129, .i32⟩
  | 119 => ⟨S4096x129, .i32⟩
  | 120 => ⟨S_, .i32⟩
  | 121 => ⟨S4096x129, .i32⟩
  | 122 => ⟨S4096x129, .i1⟩
  | 123 => ⟨S_, .i32⟩
  | 124 => ⟨S4096x129, .i32⟩
  | 125 => ⟨S4096x129, .i32⟩
  | 126 => ⟨S4096x129, .i32⟩
  | 127 => ⟨S4096x129, .i32⟩
  | _ => ⟨S16x64x128x128, .f32⟩

abbrev hbmTy0_2 (i : Nat) : BufTy := match i % 128 with
  | 0 => ⟨S4096x129x1, .i32⟩
  | 1 => ⟨S4096x129x1, .i32⟩
  | 2 => ⟨S4096x129x1, .i32⟩
  | 3 => ⟨S4096x129x3, .i32⟩
  | 4 => ⟨S4096x129x64, .f32⟩
  | 5 => ⟨S4096x129, .f32⟩
  | 6 => ⟨S4096x129, .f32⟩
  | 7 => ⟨S4096x129x1, .f32⟩
  | 8 => ⟨S4096x129x64, .f32⟩
  | 9 => ⟨S4096x129x64, .f32⟩
  | 10 => ⟨S4096x129x64, .f32⟩
  | 11 => ⟨S4096x129, .f32⟩
  | 12 => ⟨S_, .f32⟩
  | 13 => ⟨S4096x129, .f32⟩
  | 14 => ⟨S4096x129, .i1⟩
  | 15 => ⟨S_, .f32⟩
  | 16 => ⟨S4096x129, .f32⟩
  | 17 => ⟨S4096x129, .i1⟩
  | 18 => ⟨S4096x129, .i1⟩
  | 19 => ⟨S_, .f32⟩
  | 20 => ⟨S4096x129, .f32⟩
  | 21 => ⟨S4096x129, .i1⟩
  | 22 => ⟨S4096x129, .i1⟩
  | 23 => ⟨S_, .f32⟩
  | 24 => ⟨S4096x129, .f32⟩
  | 25 => ⟨S4096x129, .i1⟩
  | 26 => ⟨S4096x129, .i1⟩
  | 27 => ⟨S_, .i32⟩
  | 28 => ⟨S_, .i32⟩
  | 29 => ⟨S_, .f32⟩
  | 30 => ⟨S4096x129, .f32⟩
  | 31 => ⟨S4096x129, .f32⟩
  | 32 => ⟨S_, .f32⟩
  | 33 => ⟨S4096x129, .f32⟩
  | 34 => ⟨S4096x129, .f32⟩
  | 35 => ⟨S4096x129, .i32⟩
  | 36 => ⟨S_, .i32⟩
  | 37 => ⟨S_, .i32⟩
  | 38 => ⟨S_, .f32⟩
  | 39 => ⟨S4096x129, .f32⟩
  | 40 => ⟨S4096x129, .f32⟩
  | 41 => ⟨S_, .f32⟩
  | 42 => ⟨S4096x129, .f32⟩
  | 43 => ⟨S4096x129, .f32⟩
  | 44 => ⟨S4096x129, .i32⟩
  | 45 => ⟨S_, .i32⟩
  | 46 => ⟨S4096x1, .i32⟩
  | 47 => ⟨S4096x1, .i1⟩
  | 48 => ⟨S_, .i32⟩
  | 49 => ⟨S4096x1, .i32⟩
  | 50 => ⟨S4096x1, .i32⟩
  | 51 => ⟨S4096x1, .i32⟩
  | 52 => ⟨S_, .i32⟩
  | 53 => ⟨S4096x129, .i32⟩
  | 54 => ⟨S4096x129, .i1⟩
  | 55 => ⟨S_, .i32⟩
  | 56 => ⟨S4096x129, .i32⟩
  | 57 => ⟨S4096x129, .i32⟩
  | 58 => ⟨S4096x129, .i32⟩
  | 59 => ⟨S_, .i32⟩
  | 60 => ⟨S4096x129, .i32⟩
  | 61 => ⟨S4096x129, .i1⟩
  | 62 => ⟨S_, .i32⟩
  | 63 => ⟨S4096x129, .i32⟩
  | 64 => ⟨S4096x129, .i32⟩
  | 65 => ⟨S4096x129, .i32⟩
  | 66 => ⟨S4096x129, .i32⟩
  | 67 => ⟨S4096x129x1, .i32⟩
  | 68 => ⟨S4096x129x1, .i32⟩
  | 69 => ⟨S4096x129x1, .i32⟩
  | 70 => ⟨S4096x129x3, .i32⟩
  | 71 => ⟨S4096x129x64, .f32⟩
  | 72 => ⟨S4096x129, .f32⟩
  | 73 => ⟨S4096x129, .f32⟩
  | 74 => ⟨S4096x129x1, .f32⟩
  | 75 => ⟨S4096x129x64, .f32⟩
  | 76 => ⟨S4096x129x64, .f32⟩
  | 77 => ⟨S4096x129x64, .f32⟩
  | 78 => ⟨S4096x64x129, .f32⟩
  | 79 => ⟨S4096x8256, .f32⟩
  | 80 => ⟨S8256x512, .f32⟩
  | 81 => ⟨S4096x512, .f32⟩
  | 82 => ⟨S512x256, .f32⟩
  | 83 => ⟨S4096x256, .f32⟩
  | 84 => ⟨S1x256, .f32⟩
  | 85 => ⟨S4096x256, .f32⟩
  | 86 => ⟨S4096x256, .f32⟩
  | 87 => ⟨S4096x128x2, .f32⟩
  | 88 => ⟨S_, .f32⟩
  | 89 => ⟨S4096x128x2, .f32⟩
  | 90 => ⟨S4096x128x2, .f32⟩
  | 91 => ⟨S4096x128x2, .f32⟩
  | _ => ⟨S16x64x128x128, .f32⟩

abbrev hbmTy (i : Nat) : BufTy := match i / 128 with
  | 0 => hbmTy0_0 i
  | 1 => hbmTy0_1 i
  | 2 => hbmTy0_2 i
  | _ => ⟨S16x64x128x128, .f32⟩

abbrev bufTy : (tb : Table) → Fin (tcTables nBuf tb) → BufTy
  | .hbm, ⟨i, _⟩ => hbmTy i
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_11 : Ref sig .tc := ⟨.hbm, 52, rfl⟩
abbrev main_v33 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_15 : Ref sig .tc := ⟨.hbm, 68, rfl⟩
abbrev main_v45 : Ref sig .tc := ⟨.hbm, 69, rfl⟩
abbrev main_v46 : Ref sig .tc := ⟨.hbm, 70, rfl⟩
abbrev main_cst_16 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_17 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_18 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c : Ref sig .tc := ⟨.hbm, 83, rfl⟩
abbrev main_c_19 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_v56 : Ref sig .tc := ⟨.hbm, 90, rfl⟩
abbrev main_v57 : Ref sig .tc := ⟨.hbm, 91, rfl⟩
abbrev main_c_20 : Ref sig .tc := ⟨.hbm, 92, rfl⟩
abbrev main_c_21 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v58 : Ref sig .tc := ⟨.hbm, 99, rfl⟩
abbrev main_v59 : Ref sig .tc := ⟨.hbm, 100, rfl⟩
abbrev main_c_22 : Ref sig .tc := ⟨.hbm, 101, rfl⟩
abbrev main_v60 : Ref sig .tc := ⟨.hbm, 102, rfl⟩
abbrev main_v61 : Ref sig .tc := ⟨.hbm, 103, rfl⟩
abbrev main_c_23 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_24 : Ref sig .tc := ⟨.hbm, 108, rfl⟩
abbrev main_v65 : Ref sig .tc := ⟨.hbm, 109, rfl⟩
abbrev main_v66 : Ref sig .tc := ⟨.hbm, 110, rfl⟩
abbrev main_c_25 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_c_26 : Ref sig .tc := ⟨.hbm, 115, rfl⟩
abbrev main_v70 : Ref sig .tc := ⟨.hbm, 116, rfl⟩
abbrev main_v71 : Ref sig .tc := ⟨.hbm, 117, rfl⟩
abbrev main_c_27 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_28 : Ref sig .tc := ⟨.hbm, 134, rfl⟩
abbrev main_v87 : Ref sig .tc := ⟨.hbm, 135, rfl⟩
abbrev main_v88 : Ref sig .tc := ⟨.hbm, 136, rfl⟩
abbrev main_cst_29 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_30 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_31 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_c_32 : Ref sig .tc := ⟨.hbm, 149, rfl⟩
abbrev main_c_33 : Ref sig .tc := ⟨.hbm, 150, rfl⟩
abbrev main_call2_v0 : Ref sig .tc := ⟨.hbm, 151, rfl⟩
abbrev main_call2_v1 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_v98 : Ref sig .tc := ⟨.hbm, 156, rfl⟩
abbrev main_v99 : Ref sig .tc := ⟨.hbm, 157, rfl⟩
abbrev main_c_34 : Ref sig .tc := ⟨.hbm, 158, rfl⟩
abbrev main_c_35 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_v100 : Ref sig .tc := ⟨.hbm, 165, rfl⟩
abbrev main_v101 : Ref sig .tc := ⟨.hbm, 166, rfl⟩
abbrev main_c_36 : Ref sig .tc := ⟨.hbm, 167, rfl⟩
abbrev main_v102 : Ref sig .tc := ⟨.hbm, 168, rfl⟩
abbrev main_v103 : Ref sig .tc := ⟨.hbm, 169, rfl⟩
abbrev main_c_37 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_c_38 : Ref sig .tc := ⟨.hbm, 174, rfl⟩
abbrev main_v107 : Ref sig .tc := ⟨.hbm, 175, rfl⟩
abbrev main_v108 : Ref sig .tc := ⟨.hbm, 176, rfl⟩
abbrev main_c_39 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_c_40 : Ref sig .tc := ⟨.hbm, 181, rfl⟩
abbrev main_v112 : Ref sig .tc := ⟨.hbm, 182, rfl⟩
abbrev main_v113 : Ref sig .tc := ⟨.hbm, 183, rfl⟩
abbrev main_c_41 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_cst_42 : Ref sig .tc := ⟨.hbm, 201, rfl⟩
abbrev main_v130 : Ref sig .tc := ⟨.hbm, 202, rfl⟩
abbrev main_v131 : Ref sig .tc := ⟨.hbm, 203, rfl⟩
abbrev main_cst_43 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_cst_44 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_cst_45 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_c_46 : Ref sig .tc := ⟨.hbm, 216, rfl⟩
abbrev main_c_47 : Ref sig .tc := ⟨.hbm, 217, rfl⟩
abbrev main_call4_v0 : Ref sig .tc := ⟨.hbm, 218, rfl⟩
abbrev main_call4_v1 : Ref sig .tc := ⟨.hbm, 219, rfl⟩
abbrev main_call4_v2 : Ref sig .tc := ⟨.hbm, 220, rfl⟩
abbrev main_call4_v3 : Ref sig .tc := ⟨.hbm, 221, rfl⟩
abbrev main_call4_v4 : Ref sig .tc := ⟨.hbm, 222, rfl⟩
abbrev main_v141 : Ref sig .tc := ⟨.hbm, 223, rfl⟩
abbrev main_v142 : Ref sig .tc := ⟨.hbm, 224, rfl⟩
abbrev main_c_48 : Ref sig .tc := ⟨.hbm, 225, rfl⟩
abbrev main_c_49 : Ref sig .tc := ⟨.hbm, 226, rfl⟩
abbrev main_call5_v0 : Ref sig .tc := ⟨.hbm, 227, rfl⟩
abbrev main_call5_v1 : Ref sig .tc := ⟨.hbm, 228, rfl⟩
abbrev main_call5_v2 : Ref sig .tc := ⟨.hbm, 229, rfl⟩
abbrev main_call5_v3 : Ref sig .tc := ⟨.hbm, 230, rfl⟩
abbrev main_call5_v4 : Ref sig .tc := ⟨.hbm, 231, rfl⟩
abbrev main_v143 : Ref sig .tc := ⟨.hbm, 232, rfl⟩
abbrev main_v144 : Ref sig .tc := ⟨.hbm, 233, rfl⟩
abbrev main_c_50 : Ref sig .tc := ⟨.hbm, 234, rfl⟩
abbrev main_v145 : Ref sig .tc := ⟨.hbm, 235, rfl⟩
abbrev main_v146 : Ref sig .tc := ⟨.hbm, 236, rfl⟩
abbrev main_c_51 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_c_52 : Ref sig .tc := ⟨.hbm, 241, rfl⟩
abbrev main_v150 : Ref sig .tc := ⟨.hbm, 242, rfl⟩
abbrev main_v151 : Ref sig .tc := ⟨.hbm, 243, rfl⟩
abbrev main_c_53 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_c_54 : Ref sig .tc := ⟨.hbm, 248, rfl⟩
abbrev main_v155 : Ref sig .tc := ⟨.hbm, 249, rfl⟩
abbrev main_v156 : Ref sig .tc := ⟨.hbm, 250, rfl⟩
abbrev main_c_55 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_cst_56 : Ref sig .tc := ⟨.hbm, 268, rfl⟩
abbrev main_v173 : Ref sig .tc := ⟨.hbm, 269, rfl⟩
abbrev main_v174 : Ref sig .tc := ⟨.hbm, 270, rfl⟩
abbrev main_cst_57 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_cst_58 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_cst_59 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_c_60 : Ref sig .tc := ⟨.hbm, 283, rfl⟩
abbrev main_c_61 : Ref sig .tc := ⟨.hbm, 284, rfl⟩
abbrev main_call6_v0 : Ref sig .tc := ⟨.hbm, 285, rfl⟩
abbrev main_call6_v1 : Ref sig .tc := ⟨.hbm, 286, rfl⟩
abbrev main_call6_v2 : Ref sig .tc := ⟨.hbm, 287, rfl⟩
abbrev main_call6_v3 : Ref sig .tc := ⟨.hbm, 288, rfl⟩
abbrev main_call6_v4 : Ref sig .tc := ⟨.hbm, 289, rfl⟩
abbrev main_v184 : Ref sig .tc := ⟨.hbm, 290, rfl⟩
abbrev main_v185 : Ref sig .tc := ⟨.hbm, 291, rfl⟩
abbrev main_c_62 : Ref sig .tc := ⟨.hbm, 292, rfl⟩
abbrev main_c_63 : Ref sig .tc := ⟨.hbm, 293, rfl⟩
abbrev main_call7_v0 : Ref sig .tc := ⟨.hbm, 294, rfl⟩
abbrev main_call7_v1 : Ref sig .tc := ⟨.hbm, 295, rfl⟩
abbrev main_call7_v2 : Ref sig .tc := ⟨.hbm, 296, rfl⟩
abbrev main_call7_v3 : Ref sig .tc := ⟨.hbm, 297, rfl⟩
abbrev main_call7_v4 : Ref sig .tc := ⟨.hbm, 298, rfl⟩
abbrev main_v186 : Ref sig .tc := ⟨.hbm, 299, rfl⟩
abbrev main_v187 : Ref sig .tc := ⟨.hbm, 300, rfl⟩
abbrev main_c_64 : Ref sig .tc := ⟨.hbm, 301, rfl⟩
abbrev main_v188 : Ref sig .tc := ⟨.hbm, 302, rfl⟩
abbrev main_v189 : Ref sig .tc := ⟨.hbm, 303, rfl⟩
abbrev main_c_65 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_c_66 : Ref sig .tc := ⟨.hbm, 308, rfl⟩
abbrev main_v193 : Ref sig .tc := ⟨.hbm, 309, rfl⟩
abbrev main_v194 : Ref sig .tc := ⟨.hbm, 310, rfl⟩
abbrev main_c_67 : Ref sig .tc := ⟨.hbm, 311, rfl⟩
abbrev main_v195 : Ref sig .tc := ⟨.hbm, 312, rfl⟩
abbrev main_v196 : Ref sig .tc := ⟨.hbm, 313, rfl⟩
abbrev main_v197 : Ref sig .tc := ⟨.hbm, 314, rfl⟩
abbrev main_c_68 : Ref sig .tc := ⟨.hbm, 315, rfl⟩
abbrev main_v198 : Ref sig .tc := ⟨.hbm, 316, rfl⟩
abbrev main_v199 : Ref sig .tc := ⟨.hbm, 317, rfl⟩
abbrev main_c_69 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_v211 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_v218 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_cst_70 : Ref sig .tc := ⟨.hbm, 344, rfl⟩
abbrev main_v225 : Ref sig .tc := ⟨.hbm, 345, rfl⟩
abbrev main_v226 : Ref sig .tc := ⟨.hbm, 346, rfl⟩
abbrev main_v227 : Ref sig .tc := ⟨.hbm, 347, rfl⟩

abbrev nD : Nat := 1
abbrev τ : Topo := Topo.v7x

variable {F : FTy → Type} [FloatOps F]
-- ==== Proof.Pre.lean ====
/- What the precondition `drawn` says, entry by entry: the image numbers lie in [0, 16) and never decrease, the
   points lie in [-1/2, 3/2), and the features and the first weights are finite. -/
module

public import proofs.«01_k».proof.Pre_drawn
public import Idealize.ShloMosaic.PureOps.Ideal
public import Idealize.ShloMosaic.PureOps.Ideal.Laws
public import Idealize.ShloMosaic.Lib.Pointwise
public import Idealize.ShloMosaic.Lib.ValueIdx
public import Idealize.ShloMosaic.Lib.ValueIdxCoords

@[expose] public section

namespace Cert.PreProof

open Idealize.ShloMosaic Cert.Pre_drawn

/-- The shape conditions of the predicate's operations. -/
theorem facts : Cert.Pre_drawn.Facts where
  bcast_S_S16x64x128x128 := by decide
  bcast_S_S4096x2 := by decide
  bcast_S_S4096x128x2 := by decide
  bcast_S_S4096 := by decide
  slices_S4096_S4095_0 := by decide
  slices_S4096_S4095_1 := by decide
  bcast_S_S512x8256 := by decide

attribute [local instance] facts

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

section Words
variable {F : FTy → Type} [FloatOps F]
  (a0 : FVec F S16x64x128x128 .f32) (a1 : FVec F S4096x2 .f32) (a2 : FVec F S4096x128x2 .f32) (a3 : IVec S4096 32)
  (a4 : FVec F S512x8256 .f32) (a5 : FVec F S256x512 .f32) (a6 : FVec F S256 .f32)

/-- Every image number is one of 0 … 15. -/
theorem idx_lt (h : (fn a0 a1 a2 a3 a4 a5 a6).2.2.2.1 = fun _ => 1#1) (y : S4096.Idx) : (a3 y).toNat < 16 := by
  have e := congrFun h y
  simp only [fn, fn_part1, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- The image numbers of neighbouring rows do not decrease. -/
theorem idx_step (h : (fn a0 a1 a2 a3 a4 a5 a6).2.2.2.1 = fun _ => 1#1)
    (h' : (fn a0 a1 a2 a3 a4 a5 a6).2.2.2.2.1 = fun _ => 1#1) (n : ℕ) (hn : n + 1 < 4096) :
    (a3 (ValueIdx.ix1 ⟨n, by omega⟩)).toNat ≤ (a3 (ValueIdx.ix1 ⟨n + 1, hn⟩)).toNat := by
  have e := congrFun h' (ValueIdx.ix1 ⟨n, by omega⟩)
  have b1 := idx_lt a0 a1 a2 a3 a4 a5 a6 h (ValueIdx.ix1 ⟨n, by omega⟩)
  have b2 := idx_lt a0 a1 a2 a3 a4 a5 a6 h (ValueIdx.ix1 ⟨n + 1, hn⟩)
  simp only [fn, fn_part1, cmpi, IntOp.cmpi, ofBool_eq_one] at e
  have e1 : (extractStridedSlice S4095 ![0] a3 Facts.slices_S4096_S4095_0) (ValueIdx.ix1 ⟨n, by omega⟩) = a3 (ValueIdx.ix1 ⟨n, by omega⟩) := by
    unfold extractStridedSlice; congr 1; funext a; fin_cases a; apply Fin.ext; simp
  have e2 : (extractStridedSlice S4095 ![1] a3 Facts.slices_S4096_S4095_1) (ValueIdx.ix1 ⟨n, by omega⟩) = a3 (ValueIdx.ix1 ⟨n + 1, hn⟩) := by
    unfold extractStridedSlice; congr 1; funext a; fin_cases a; apply Fin.ext; simp; omega
  rw [e1, e2] at e
  simp only [BitVec.sle, decide_eq_true_eq, BitVec.toInt] at e
  omega

/-- A later row's image number is at least an earlier row's. -/
theorem idx_mono (h : (fn a0 a1 a2 a3 a4 a5 a6).2.2.2.1 = fun _ => 1#1)
    (h' : (fn a0 a1 a2 a3 a4 a5 a6).2.2.2.2.1 = fun _ => 1#1) (n k : ℕ) (hk : n + k < 4096) :
    (a3 (ValueIdx.ix1 ⟨n, by omega⟩)).toNat ≤ (a3 (ValueIdx.ix1 ⟨n + k, hk⟩)).toNat := by
  induction k with
  | zero => exact le_rfl
  | succ k ih => exact (ih (by omega)).trans (idx_step a0 a1 a2 a3 a4 a5 a6 h h' (n + k) (by omega))

end Words

section Values
variable
  (a0 : FVec Ideal S16x64x128x128 .f32) (a1 : FVec Ideal S4096x2 .f32) (a2 : FVec Ideal S4096x128x2 .f32) (a3 : IVec S4096 32)
  (a4 : FVec Ideal S512x8256 .f32) (a5 : FVec Ideal S256x512 .f32) (a6 : FVec Ideal S256 .f32)

/-- A number strictly between two finite bounds, or of absolute value below +∞, is a real number. -/
theorem exists_real {x : EReal} (h1 : x ≠ ⊥) (h2 : x ≠ ⊤) : ∃ r : ℝ, x = (r : EReal) :=
  ⟨x.toReal, (EReal.coe_toReal h2 h1).symm⟩

theorem real_of_abs_lt_top {x : EReal} (h : max x (-x) < ⊤) : ∃ r : ℝ, x = (r : EReal) := by
  refine exists_real ?_ ?_ <;> rintro rfl <;> simp at h

theorem bits_inf : Ideal.ofBits .f32 0x7F800000#32 = ⊤ := by simp [Ideal.ofBits, Ideal.ieee]
theorem bits_neg_half : Ideal.ofBits .f32 0xBF000000#32 = ((-(1 / 2) : ℝ) : EReal) := by
  simp [Ideal.ofBits, Ideal.ieee]; norm_num; rw [← EReal.coe_mul]; norm_num
theorem bits_three_halves : Ideal.ofBits .f32 0x3FC00000#32 = ((3 / 2 : ℝ) : EReal) := by
  simp [Ideal.ofBits, Ideal.ieee]; norm_num; rw [← EReal.coe_mul]; norm_num

theorem real_between {x : EReal} (h1 : ((-(1 / 2) : ℝ) : EReal) ≤ x) (h2 : x < ((3 / 2 : ℝ) : EReal)) :
    ∃ r : ℝ, x = (r : EReal) ∧ -(1 / 2) ≤ r ∧ r < 3 / 2 := by
  obtain ⟨r, rfl⟩ := exists_real (x := x) (by rintro rfl; simp at h1) (by rintro rfl; simp at h2)
  exact ⟨r, rfl, EReal.coe_le_coe_iff.mp h1, EReal.coe_lt_coe_iff.mp h2⟩

/-- Every feature is a real number. -/
theorem feature_real (h : (fn a0 a1 a2 a3 a4 a5 a6).1 = fun _ => 1#1) (y : S16x64x128x128.Idx) : ∃ r : ℝ, a0 y = (r : EReal) := by
  have e := congrFun h y
  simp only [fn, fn_part1, cmpf, broadcastInDim, constant, Host.absf] at e
  change Ideal.cmp .olt (max (a0 y) (-(a0 y))) (Ideal.ofBits .f32 0x7F800000#32) = 1#1 at e
  simp only [Ideal.cmp, ofBool_eq_one, decide_eq_true_eq, bits_inf] at e
  exact real_of_abs_lt_top e

/-- Every first weight is a real number. -/
theorem w1_real (h : (fn a0 a1 a2 a3 a4 a5 a6).2.2.2.2.2 = fun _ => 1#1) (y : S512x8256.Idx) : ∃ r : ℝ, a4 y = (r : EReal) := by
  have e := congrFun h y
  simp only [fn, fn_part1, cmpf, broadcastInDim, constant, Host.absf] at e
  change Ideal.cmp .olt (max (a4 y) (-(a4 y))) (Ideal.ofBits .f32 0x7F800000#32) = 1#1 at e
  simp only [Ideal.cmp, ofBool_eq_one, decide_eq_true_eq, bits_inf] at e
  exact real_of_abs_lt_top e

/-- Every centre point's coordinate is a real number in [-1/2, 3/2). -/
theorem ct_real (h : (fn a0 a1 a2 a3 a4 a5 a6).2.1 = fun _ => 1#1) (y : S4096x2.Idx) :
    ∃ r : ℝ, a1 y = (r : EReal) ∧ -(1 / 2) ≤ r ∧ r < 3 / 2 := by
  have e := congrFun h y
  simp only [fn, fn_part1, andi, cmpf, broadcastInDim, constant] at e
  change IntOp.andi (Ideal.cmp .oge (a1 y) (Ideal.ofBits .f32 0xBF000000#32)) (Ideal.cmp .olt (a1 y) (Ideal.ofBits .f32 0x3FC00000#32)) = 1#1 at e
  simp only [Ideal.cmp, andi_ofBool, ofBool_eq_one, Bool.and_eq_true, decide_eq_true_eq, bits_neg_half, bits_three_halves] at e
  exact real_between e.1 e.2

/-- Every outline point's coordinate is a real number in [-1/2, 3/2). -/
theorem init_real (h : (fn a0 a1 a2 a3 a4 a5 a6).2.2.1 = fun _ => 1#1) (y : S4096x128x2.Idx) :
    ∃ r : ℝ, a2 y = (r : EReal) ∧ -(1 / 2) ≤ r ∧ r < 3 / 2 := by
  have e := congrFun h y
  simp only [fn, fn_part1, andi, cmpf, broadcastInDim, constant] at e
  change IntOp.andi (Ideal.cmp .oge (a2 y) (Ideal.ofBits .f32 0xBF000000#32)) (Ideal.cmp .olt (a2 y) (Ideal.ofBits .f32 0x3FC00000#32)) = 1#1 at e
  simp only [Ideal.cmp, andi_ofBool, ofBool_eq_one, Bool.and_eq_true, decide_eq_true_eq, bits_neg_half, bits_three_halves] at e
  exact real_between e.1 e.2

end Values

end Cert.PreProof
-- ==== Proof.IdealFrame.lean ====
/- The frame of `KernelIdeal`: the precondition gives the two side conditions of its run. The two tables hold the first and the
   last image number of every tile of 256 rows, each in [0, 16), so every trip of the image loop stays inside the kept
   products. -/
module

public import proofs.«01_k».proof.Defs
public import proofs.«01_k».proof.Proof.Gen.KernelIdeal.Frame
public import proofs.«01_k».proof.Proof.Pre

@[expose] public section

namespace Cert.KernelIdealFrame

open Cert.KernelIdeal Cert.KernelIdeal.Gen
open Idealize.ShloMosaic Idealize.ShloMosaic.TcCoe Idealize.ShloMosaic.StableHlo

attribute [local instance] Cert.PreProof.facts

/-- The image loops stay inside the kept products for every pair of image numbers. -/
theorem chk_fin : ∀ lo hi : Fin 16, k0_chk1 (BitVec.ofNat 32 lo.val) (BitVec.ofNat 32 hi.val) := by
  decide +kernel

/-- The same of any two words below 16. -/
theorem chk_of_lt (lo hi : BitVec 32) (h1 : lo.toNat < 16) (h2 : hi.toNat < 16) : k0_chk1 lo hi := by
  have e := chk_fin ⟨lo.toNat, h1⟩ ⟨hi.toNat, h2⟩
  simpa only [BitVec.ofNat_toNat, BitVec.setWidth_eq] using e

section
variable {F : FTy → Type} [FloatOps F] (m : (ℓ : Loc nD τ sig) → Buf (Elt F) ℓ)

/-- The first table is the image number of every 256th row, from row 0. -/
theorem tbl0_eq : (tbl m 0 : Vec F S16 .i32) = Host.slice S16 ![0] ![256] (m ((0 : Dev nD).tc.loc main_arg3)) slicesBy_S4096_S16_0s256 := by
  show StableHlo.after hostOps0 _ (Proc.devRef .tc main_v6) = _
  after_results <;> rfl

/-- The second table is the image number of every 256th row, from row 255. -/
theorem tbl1_eq : (tbl m 1 : Vec F S16 .i32) = Host.slice S16 ![255] ![256] (m ((0 : Dev nD).tc.loc main_arg3)) slicesBy_S4096_S16_255s256 := by
  show StableHlo.after hostOps0 _ (Proc.devRef .tc main_v7) = _
  after_results <;> rfl

/-- The tile number as a word is the tile number. -/
theorem off1_val (i : grid0.Coords) : k0_off1 i 0 = (i 0).val := by
  have h : (i 0).val < 16 := (i 0).isLt
  show (Scalar.indexCast (BitVec.ofNat 32 (i 0).val)).toNat = (i 0).val
  generalize (i 0).val = n at h ⊢
  interval_cases n <;> decide

/-- The word the body reads off the first table. -/
theorem word0 (i : grid0.Coords) (f : Vec F S16 .i32) :
    tbM0_0.view.readAt (Elt F) (Rect.unit (s := S16) (k0_off1 i) S1.size (k0_off1_inb i)).toLoadRect f (Shape.Idx.first (numel1_S1.symm ▸ Nat.one_pos))
      = f (ValueIdx.ix1 (i 0)) := by
  show f _ = f _
  congr 1
  funext a
  refine Fin.ext ?_
  match a with
  | ⟨0, _⟩ =>
    show k0_off1 i 0 + 0 * 1 = (i 0).val
    rw [off1_val]
    omega

/-- The word the body reads off the second table. -/
theorem word1 (i : grid0.Coords) (f : Vec F S16 .i32) :
    tbM0_1.view.readAt (Elt F) (Rect.unit (s := S16) (k0_off1 i) S1.size (k0_off1_inb i)).toLoadRect f (Shape.Idx.first (numel1_S1.symm ▸ Nat.one_pos))
      = f (ValueIdx.ix1 (i 0)) := by
  show f _ = f _
  congr 1
  funext a
  refine Fin.ext ?_
  match a with
  | ⟨0, _⟩ =>
    show k0_off1 i 0 + 0 * 1 = (i 0).val
    rw [off1_val]
    omega

/-- The first image number of a tile. -/
theorem lo_eq (i : grid0.Coords) :
    tbM0_0.view.readAt (Elt F) (Rect.unit (s := S16) (k0_off1 i) S1.size (k0_off1_inb i)).toLoadRect (tbl m 0) (Shape.Idx.first (numel1_S1.symm ▸ Nat.one_pos))
      = (m ((0 : Dev nD).tc.loc main_arg3) : Vec F S4096 .i32) (ValueIdx.ix1 ⟨256 * (i 0).val, by have : (i 0).val < 16 := (i 0).isLt; omega⟩) := by
  refine (word0 i (tbl m 0)).trans ?_
  refine (congrFun (tbl0_eq m) _).trans ?_
  show (m ((0 : Dev nD).tc.loc main_arg3) : Vec F S4096 .i32) _ = (m ((0 : Dev nD).tc.loc main_arg3) : Vec F S4096 .i32) _
  congr 1
  funext a
  refine Fin.ext ?_
  match a with
  | ⟨0, _⟩ => exact Nat.zero_add _

/-- The last image number of a tile. -/
theorem hi_eq (i : grid0.Coords) :
    tbM0_1.view.readAt (Elt F) (Rect.unit (s := S16) (k0_off1 i) S1.size (k0_off1_inb i)).toLoadRect (tbl m 1) (Shape.Idx.first (numel1_S1.symm ▸ Nat.one_pos))
      = (m ((0 : Dev nD).tc.loc main_arg3) : Vec F S4096 .i32) (ValueIdx.ix1 ⟨256 * (i 0).val + 255, by have : (i 0).val < 16 := (i 0).isLt; omega⟩) := by
  refine (word1 i (tbl m 1)).trans ?_
  refine (congrFun (tbl1_eq m) _).trans ?_
  show (m ((0 : Dev nD).tc.loc main_arg3) : Vec F S4096 .i32) _ = (m ((0 : Dev nD).tc.loc main_arg3) : Vec F S4096 .i32) _
  congr 1
  funext a
  refine Fin.ext ?_
  match a with
  | ⟨0, _⟩ => exact Nat.add_comm _ _

end

/-- No index map reads a table: nothing to show. -/
theorem ok_of_pre {F : FTy → Type} [FloatOps F] (m : (ℓ : Loc nD τ sig) → Buf (Elt F) ℓ) : Ok m := trivial

/-- The precondition implies the side conditions the body assumes. -/
theorem hyps_of_pre (m : (ℓ : Loc nD τ sig) → Buf (Elt Ideal) ℓ) (h : Cert.Pre_KernelIdeal m) (hO : Ok m) : Hyps m hO := by
  have b : ∀ y, (m ((0 : Dev nD).tc.loc main_arg3) y).toNat < 16 := Cert.PreProof.idx_lt _ _ _ _ _ _ _ (h 0).2.2.2.1
  intro c t
  refine chk_of_lt _ _ ?_ ?_
  · refine (congrArg BitVec.toNat (lo_eq m (grid0.coords t))).trans_lt (b _)
  · refine (congrArg BitVec.toNat (hi_eq m (grid0.coords t))).trans_lt (b _)

end Cert.KernelIdealFrame
-- ==== Proof.Frames.lean ====
/- The three frames: each program runs, leaves its arguments as they were and every counter at zero. -/
module

public import proofs.«01_k».proof.Defs
public import proofs.«01_k».proof.Proof.KernelFrame
public import proofs.«01_k».proof.Proof.IdealFrame
public import proofs.«01_k».proof.Proof.Gen.ReferenceIdeal
public import proofs.«01_k».proof.Proof.Gen.ReferenceIdeal.Run

@[expose] public section

namespace Cert.Frames

open Idealize.ShloMosaic Idealize.SL.Sem

attribute [local instance] Cert.PreProof.facts

/-- The kernel's frame: its run under the side conditions the precondition gives. -/
theorem kernel : Cert.quiescent_Kernel := fun m ρ h =>
  Cert.Kernel.Gen.frame m ρ (Cert.KernelFrame.ok_of_pre m) (Cert.KernelFrame.hyps_of_pre m h _)

/-- The idealized kernel's frame. -/
theorem ideal : Cert.quiescent_KernelIdeal := fun m ρ h =>
  Cert.KernelIdeal.Gen.frame m ρ (Cert.KernelIdealFrame.ok_of_pre m) (Cert.KernelIdealFrame.hyps_of_pre m h _)

/-- The reference's run from any memory: arguments unchanged, no counter moves. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The reference's frame. -/
theorem reference : Cert.quiescent_ReferenceIdeal := fun m ρ _ => reference_run m ρ

/-- The reference's frame under the precondition. -/
theorem reference_pre : Cert.quiescent_ReferenceIdeal_pre_drawn := fun m ρ _ => reference_run m ρ

end Cert.Frames
-- ==== Proof.KernelTrip.lean ====
/- One grid point of the kernel as a value: a trip of the image loop rewrites the accumulator by `tripVal`; the accumulator
   after all trips is `accAt`; the point's first output block is the second product of it. -/
module

public import proofs.«01_k».proof.Proof.Gen.KernelIdeal.Frame
public import Idealize.ShloMosaic.Lib.Pipeline.Value

@[expose] public section

noncomputable section

namespace Cert.KernelTrip

open Cert.KernelIdeal Cert.KernelIdeal.Gen
open Idealize.ShloMosaic Idealize.ShloMosaic.TcCoe

variable {F : FTy → Type} [FloatOps F]

/-- What one trip of the image loop stores back into the accumulator, of the kept products `vm` and `vc` and the
    accumulator `acc` it finds. -/
def tripVal (v27 : FVec F S256x128 .f32) (v30 : FVec F S256x128 .f32) (v32 : FVec F S256x128 .f32) (v35 : FVec F S256x128 .f32) (cst_15 : F .f32) (v38 : Vec F S256x2 .f32) (v55 : Vec F S256x1 .i32) (v62 : Elt F .i32) (v64 : Elt F .i32) (k0_hw1 : k0_chk1 v62 v64) (vm : Vec F S16x4x128x512 .f32) (vc : Vec F S64x512 .f32) (k : Fin (k0_t1_loop v62 v64).trips) (acc : Vec F S256x512 .f32) : Vec F S256x512 .f32 :=
  k0_pay33 v27 v35 cst_15 (k0_pay2 (k0_pay31 v55) v62 v64 1#32 k) (k0_pay3 v30 (k0_pay31 v55) v62 v64 1#32 k)
    (k0_pay4 v32 (k0_pay31 v55) v62 v64 1#32 k)
    (k0_pay5 (k0_pay27 v38) (k0_pay28 v38) (k0_pay29 v38) (k0_pay30 v38)
      (View.ld vc (Rect.unit (s := S64x512) (k0_off2 v62 v64 k) S1x512.size (k0_off2_inb v62 v64 k0_hw1 k)))
      (View.ld vc (Rect.unit (s := S64x512) (k0_off3 v62 v64 k 1#32) S1x512.size (k0_off3_inb v62 v64 k0_hw1 k 0)))
      (View.ld vc (Rect.unit (s := S64x512) (k0_off3 v62 v64 k 2#32) S1x512.size (k0_off3_inb v62 v64 k0_hw1 k 1))))
    (k0_pay6 (k0_pay28 v38) (k0_pay30 v38))
    (k0_pay7 (View.ld vc (Rect.unit (s := S64x512) (k0_off3 v62 v64 k 3#32) S1x512.size (k0_off3_inb v62 v64 k0_hw1 k 2))))
    acc
    (View.ld vm (Rect.unit (s := S16x4x128x512) (k0_off4 v62 v64 k) S1x1x128x512.size (k0_off4_inb v62 v64 k0_hw1 k)))
    (View.ld vm (Rect.unit (s := S16x4x128x512) (k0_off5 v62 v64 k) S1x1x128x512.size (k0_off5_inb v62 v64 k0_hw1 k)))
    (View.ld vm (Rect.unit (s := S16x4x128x512) (k0_off6 v62 v64 k) S1x1x128x512.size (k0_off6_inb v62 v64 k0_hw1 k)))
    (View.ld vm (Rect.unit (s := S16x4x128x512) (k0_off7 v62 v64 k) S1x1x128x512.size (k0_off7_inb v62 v64 k0_hw1 k)))

/-- The zero offsets of a whole block of rank two. -/
theorem off00 : (![0, 0] : Fin 2 → Nat) = fun _ => 0 := by decide

/-- A trip stores the whole accumulator once, at `tripVal`. -/
theorem tripL_eq (𝒱 : Variants) (c : Dev nD) (bd : Option 𝒱.V) (i : grid0.Coords) (arg1 : Memref sig .tc .smem S16 .i32) (harg1 : arg1.IsWhole) (arg2 : Memref sig .tc .smem S16 .i32) (harg2 : arg2.IsWhole) (arg3 : Memref sig .tc .vmem S64x64 .f32) (harg3 : arg3.IsWhole) (arg4 : Memref sig .tc .vmem S64x66048 .f32) (harg4 : arg4.IsWhole) (arg5 : Memref sig .tc .vmem S256x2 .f32) (harg5 : arg5.IsWhole) (arg6 : Memref sig .tc .vmem S256x1 .i32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x8192x128 .f32) (harg10 : arg10.IsWhole) (arg11 : Memref sig .tc .vmem S256x256 .f32) (harg11 : arg11.IsWhole) (arg12 : Memref sig .tc .vmem S1x8192x128 .f32) (harg12 : arg12.IsWhole) (arg13 : Memref sig .tc .vmem S16x4x128x512 .f32) (harg13 : arg13.IsWhole) (arg14 : Memref sig .tc .vmem S64x512 .f32) (harg14 : arg14.IsWhole) (arg15 : Memref sig .tc .vmem S256x512 .f32) (harg15 : arg15.IsWhole) (arg0 : BitVec 32) (v27 : FVec F S256x128 .f32) (v30 : FVec F S256x128 .f32) (v32 : FVec F S256x128 .f32) (v35 : FVec F S256x128 .f32) (cst_15 : F .f32) (v38 : Vec F S256x2 .f32) (v55 : Vec F S256x1 .i32) (v62 : Elt F .i32) (v64 : Elt F .i32) (k0_hw1 : k0_chk1 v62 v64) (X_arg13 : BufTy.Contents (Elt F) arg13.view.ty) (X_arg14 : BufTy.Contents (Elt F) arg14.view.ty) (k : Fin (k0_t1_loop v62 v64).trips) (f : BufTy.Contents (Elt F) arg15.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v27 v30 v32 v35 cst_15 v38 v55 v62 v64 k0_hw1 X_arg13 X_arg14 k f
      = [⟨Rect.unit (s := S256x512) ![0, 0] S256x512.size inb_S256x512_S256x512_0_0,
          tripVal v27 v30 v32 v35 cst_15 v38 v55 v62 v64 k0_hw1 (arg13.view.read (Elt F) X_arg13) (arg14.view.read (Elt F) X_arg14) k (arg15.view.read (Elt F) f)⟩] := by
  unfold tripL_k0_t1 trip_k0_t1
  dsimp only
  sl_unfold_words
  simp only [View.readAt_eq_ld]
  rw [View.ld_unit_zero (S := S256x512) off00 inb_S256x512_S256x512_0_0 (arg15.view.read (Elt F) f)]
  rfl

/-- The accumulator after `n` trips, from `a0`. -/
def accAt (v27 : FVec F S256x128 .f32) (v30 : FVec F S256x128 .f32) (v32 : FVec F S256x128 .f32) (v35 : FVec F S256x128 .f32) (cst_15 : F .f32) (v38 : Vec F S256x2 .f32) (v55 : Vec F S256x1 .i32) (v62 : Elt F .i32) (v64 : Elt F .i32) (k0_hw1 : k0_chk1 v62 v64) (vm : Vec F S16x4x128x512 .f32) (vc : Vec F S64x512 .f32) (a0 : Vec F S256x512 .f32) : ℕ → Vec F S256x512 .f32
  | 0 => a0
  | n + 1 => if h : n < (k0_t1_loop v62 v64).trips then tripVal v27 v30 v32 v35 cst_15 v38 v55 v62 v64 k0_hw1 vm vc ⟨n, h⟩ (accAt v27 v30 v32 v35 cst_15 v38 v55 v62 v64 k0_hw1 vm vc a0 n) else accAt v27 v30 v32 v35 cst_15 v38 v55 v62 v64 k0_hw1 vm vc a0 n

/-- The accumulator's buffer after the stores of `n` trips holds `accAt` of what it held before them. -/
theorem read_pb (𝒱 : Variants) (c : Dev nD) (bd : Option 𝒱.V) (i : grid0.Coords) (arg1 : Memref sig .tc .smem S16 .i32) (harg1 : arg1.IsWhole) (arg2 : Memref sig .tc .smem S16 .i32) (harg2 : arg2.IsWhole) (arg3 : Memref sig .tc .vmem S64x64 .f32) (harg3 : arg3.IsWhole) (arg4 : Memref sig .tc .vmem S64x66048 .f32) (harg4 : arg4.IsWhole) (arg5 : Memref sig .tc .vmem S256x2 .f32) (harg5 : arg5.IsWhole) (arg6 : Memref sig .tc .vmem S256x1 .i32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x8192x128 .f32) (harg10 : arg10.IsWhole) (arg11 : Memref sig .tc .vmem S256x256 .f32) (harg11 : arg11.IsWhole) (arg12 : Memref sig .tc .vmem S1x8192x128 .f32) (harg12 : arg12.IsWhole) (arg13 : Memref sig .tc .vmem S16x4x128x512 .f32) (harg13 : arg13.IsWhole) (arg14 : Memref sig .tc .vmem S64x512 .f32) (harg14 : arg14.IsWhole) (arg15 : Memref sig .tc .vmem S256x512 .f32) (harg15 : arg15.IsWhole) (arg0 : BitVec 32) (v27 : FVec F S256x128 .f32) (v30 : FVec F S256x128 .f32) (v32 : FVec F S256x128 .f32) (v35 : FVec F S256x128 .f32) (cst_15 : F .f32) (v38 : Vec F S256x2 .f32) (v55 : Vec F S256x1 .i32) (v62 : Elt F .i32) (v64 : Elt F .i32) (k0_hw1 : k0_chk1 v62 v64) (X_arg13 : BufTy.Contents (Elt F) arg13.view.ty) (X_arg14 : BufTy.Contents (Elt F) arg14.view.ty) (G : BufTy.Contents (Elt F) arg15.view.ty) (n : ℕ) (hn : n ≤ (k0_t1_loop v62 v64).trips) :
    arg15.view.read (Elt F) (arg15.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v27 v30 v32 v35 cst_15 v38 v55 v62 v64 k0_hw1 X_arg13 X_arg14 G n))
      = accAt v27 v30 v32 v35 cst_15 v38 v55 v62 v64 k0_hw1 (arg13.view.read (Elt F) X_arg13) (arg14.view.read (Elt F) X_arg14) (arg15.view.read (Elt F) G) n := by
  induction n with
  | zero => rfl
  | succ n ih =>
    have hlt : n < (k0_t1_loop v62 v64).trips := hn
    rw [show pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v27 v30 v32 v35 cst_15 v38 v55 v62 v64 k0_hw1 X_arg13 X_arg14 G (n + 1) = _ from pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v27 v30 v32 v35 cst_15 v38 v55 v62 v64 k0_hw1 X_arg13 X_arg14 G ⟨n, hlt⟩, tripL_eq, View.writes_append,
      View.read_writes_eq_canon _ _ _ (fun y => ⟨_, List.mem_singleton_self _, View.mem_set_unit_zero off00 inb_S256x512_S256x512_0_0 y⟩),
      View.canon_unit_zero off00]
    rw [ih (Nat.le_of_lt hlt)]
    rw [accAt, dif_pos hlt]

/-- The second loop makes no trip, for image numbers below 16. -/
theorem trips2_fin : ∀ lo hi : Fin 16, (k0_t2_loop (BitVec.ofNat 32 lo.val) (BitVec.ofNat 32 hi.val)).trips = 0 := by
  decide +kernel

/-- The same of any two words below 16. -/
theorem trips2_eq (lo hi : BitVec 32) (h1 : lo.toNat < 16) (h2 : hi.toNat < 16) : (k0_t2_loop lo hi).trips = 0 := by
  have e := trips2_fin ⟨lo.toNat, h1⟩ ⟨hi.toNat, h2⟩
  simpa only [BitVec.ofNat_toNat, BitVec.setWidth_eq] using e

/-- The word the point reads off a table. -/
abbrev word (c : Dev nD) (i : grid0.Coords) (tb : Memref sig .tc .smem S16 .i32) (x : BufTy.Contents (Elt F) tb.view.ty) : BitVec 32 :=
  tb.view.readAt (Elt F) (Rect.unit (s := S16) (k0_off1 i) S1.size (k0_off1_inb i)).toLoadRect x (Shape.Idx.first (numel1_S1.symm ▸ Nat.one_pos))

/-- What a point leaves in its first output block: of its input blocks, the two table words and the kept products. -/
def ptVal (lo hi : BitVec 32) (hw : k0_chk1 lo hi) (vm : Vec F S16x4x128x512 .f32) (vc : Vec F S64x512 .f32)
    (x2 : Vec F S256x2 .f32) (x3 : Vec F S256x1 .i32) (x4 : Vec F S512x256 .f32) (x5 : Vec F S1x256 .f32) (x6 : Vec F S256x256 .f32) : Vec F S256x256 .f32 :=
  k0_pay1 (accAt (k0_pay20 x6) (k0_pay21 x6) (k0_pay22 x6) (k0_pay23 x6) (FloatOps.ofBits FTy.f32 0#32) x2 x3 lo hi hw vm vc k0_pay32 (k0_t1_loop lo hi).trips) x4 x5 x6

/-- The accumulator read back after both loops, over the zero block: the second loop's stores `L2` are none. -/
theorem acc_after (𝒱 : Variants) (c : Dev nD) (bd : Option 𝒱.V) (i : grid0.Coords) (arg1 : Memref sig .tc .smem S16 .i32) (harg1 : arg1.IsWhole) (arg2 : Memref sig .tc .smem S16 .i32) (harg2 : arg2.IsWhole) (arg3 : Memref sig .tc .vmem S64x64 .f32) (harg3 : arg3.IsWhole) (arg4 : Memref sig .tc .vmem S64x66048 .f32) (harg4 : arg4.IsWhole) (arg5 : Memref sig .tc .vmem S256x2 .f32) (harg5 : arg5.IsWhole) (arg6 : Memref sig .tc .vmem S256x1 .i32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x8192x128 .f32) (harg10 : arg10.IsWhole) (arg11 : Memref sig .tc .vmem S256x256 .f32) (harg11 : arg11.IsWhole) (arg12 : Memref sig .tc .vmem S1x8192x128 .f32) (harg12 : arg12.IsWhole) (arg13 : Memref sig .tc .vmem S16x4x128x512 .f32) (harg13 : arg13.IsWhole) (arg14 : Memref sig .tc .vmem S64x512 .f32) (harg14 : arg14.IsWhole) (arg15 : Memref sig .tc .vmem S256x512 .f32) (harg15 : arg15.IsWhole) (arg0 : BitVec 32) (v27 : FVec F S256x128 .f32) (v30 : FVec F S256x128 .f32) (v32 : FVec F S256x128 .f32) (v35 : FVec F S256x128 .f32) (cst_15 : F .f32) (v38 : Vec F S256x2 .f32) (v55 : Vec F S256x1 .i32) (v62 : Elt F .i32) (v64 : Elt F .i32) (k0_hw1 : k0_chk1 v62 v64) (X_arg13 : BufTy.Contents (Elt F) arg13.view.ty) (X_arg14 : BufTy.Contents (Elt F) arg14.view.ty) (L2 : List (View.Piece (Elt F) S256x512 .f32)) (h2 : L2 = []) :
    arg15.view.readCov (L2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v27 v30 v32 v35 cst_15 v38 v55 v62 v64 k0_hw1 X_arg13 X_arg14 (arg15.view.writes (Elt F) arg15.view.junk [⟨Rect.unit (s := S256x512) ![0, 0] S256x512.size inb_S256x512_S256x512_0_0, k0_pay32⟩]) (k0_t1_loop v62 v64).trips
        ++ [⟨Rect.unit (s := S256x512) ![0, 0] S256x512.size inb_S256x512_S256x512_0_0, k0_pay32⟩])) (Rect.unit (s := S256x512) ![0, 0] S256x512.size inb_S256x512_S256x512_0_0).toLoadRect
      = accAt v27 v30 v32 v35 cst_15 v38 v55 v62 v64 k0_hw1 (arg13.view.read (Elt F) X_arg13) (arg14.view.read (Elt F) X_arg14) k0_pay32 (k0_t1_loop v62 v64).trips := by
  subst h2
  rw [List.nil_append]
  show arg15.view.readAt (Elt F) _ (arg15.view.writes (Elt F) arg15.view.junk _) = _
  rw [View.writes_append, View.readAt_eq_ld, View.ld_unit_zero off00, read_pb _ _ _ _ _ _ _ _ _ _ _ _ _ _ _ _ _ _ _ _ _ _ _ _ _ _ _ _ _ _ _ _ _ _ _ _ _ _ _ _ _ _ _ _ _ _ _ _ _ le_rfl,
    View.read_writes_eq_canon _ _ _ (fun y => ⟨_, List.mem_singleton_self _, View.mem_set_unit_zero off00 inb_S256x512_S256x512_0_0 y⟩),
    View.canon_unit_zero off00]

/-- A point after the first leaves `ptVal` of the products it found. -/
theorem outB (c : Dev nD) (i : grid0.Coords) (arg3 : Memref sig .tc .vmem S64x64 .f32) (harg3 : arg3.IsWhole) (arg4 : Memref sig .tc .vmem S64x66048 .f32) (harg4 : arg4.IsWhole) (arg5 : Memref sig .tc .vmem S256x2 .f32) (harg5 : arg5.IsWhole) (arg6 : Memref sig .tc .vmem S256x1 .i32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x8192x128 .f32) (harg10 : arg10.IsWhole) (arg11 : Memref sig .tc .vmem S256x256 .f32) (harg11 : arg11.IsWhole) (arg12 : Memref sig .tc .vmem S1x8192x128 .f32) (harg12 : arg12.IsWhole) (arg13 : Memref sig .tc .vmem S16x4x128x512 .f32) (harg13 : arg13.IsWhole) (arg14 : Memref sig .tc .vmem S64x512 .f32) (harg14 : arg14.IsWhole) (arg15 : Memref sig .tc .vmem S256x512 .f32) (harg15 : arg15.IsWhole) (hc0 : ¬cond0_0 i)
    (x0 : Vec F S64x64 .f32) (x1 : Vec F S64x66048 .f32) (x2 : Vec F S256x2 .f32) (x3 : Vec F S256x1 .i32) (x4 : Vec F S512x256 .f32) (x5 : Vec F S1x256 .f32) (x6 : Vec F S256x256 .f32) (x7 : Vec F S1x8192x128 .f32) (xt0 : TbBuf0 (F := F) c tbM0_0) (xt1 : TbBuf0 (F := F) c tbM0_1) (xs0 : Vec F S16x4x128x512 .f32) (xs1 : Vec F S64x512 .f32) (k0_hw1 : k0_chk1 (tbM0_0.view.readAt (Elt F) (Rect.unit (s := S16) (k0_off1 i) S1.size (k0_off1_inb i)).toLoadRect xt0 (Shape.Idx.first (numel1_S1.symm ▸ Nat.one_pos))) (tbM0_1.view.readAt (Elt F) (Rect.unit (s := S16) (k0_off1 i) S1.size (k0_off1_inb i)).toLoadRect xt1 (Shape.Idx.first (numel1_S1.symm ▸ Nat.one_pos)))) (h1 : (word c i tbM0_0 xt0).toNat < 16) (h2 : (word c i tbM0_1 xt1).toNat < 16) :
    out0_B_8 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 xs0 xs1 k0_hw1 = ptVal _ _ k0_hw1 xs0 xs1 x2 x3 x4 x5 x6 := by
  have e9 : arg9.view.readAt (Elt F) (Rect.unit (s := S256x256) ![0, 0] S256x256.size inb_S256x256_S256x256_0_0).toLoadRect (harg9.unread x6) = x6 := by
    rw [View.readAt_eq_ld, harg9.read_unread, View.ld_unit_zero off00]
  have e5 : arg5.view.readAt (Elt F) (Rect.unit (s := S256x2) ![0, 0] S256x2.size inb_S256x2_S256x2_0_0).toLoadRect (harg5.unread x2) = x2 := by
    rw [View.readAt_eq_ld, harg5.read_unread, View.ld_unit_zero off00]
  have e6 : arg6.view.readAt (Elt F) (Rect.unit (s := S256x1) ![0, 0] S256x1.size inb_S256x1_S256x1_0_0).toLoadRect (harg6.unread x3) = x3 := by
    rw [View.readAt_eq_ld, harg6.read_unread, View.ld_unit_zero off00]
  have e7 : arg7.view.readAt (Elt F) (Rect.unit (s := S512x256) ![0, 0] S512x256.size inb_S512x256_S512x256_0_0).toLoadRect (harg7.unread x4) = x4 := by
    rw [View.readAt_eq_ld, harg7.read_unread, View.ld_unit_zero off00]
  have e8 : arg8.view.readAt (Elt F) (Rect.unit (s := S1x256) ![0, 0] S1x256.size inb_S1x256_S1x256_0_0).toLoadRect (harg8.unread x5) = x5 := by
    rw [View.readAt_eq_ld, harg8.read_unread, View.ld_unit_zero off00]
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 xs0 xs1 k0_hw1)]
  unfold kernelRun0_B
  dsimp only
  sl_unfold_words
  rw [View.canon_unit_zero off00]
  refine (congr (congr (congr (congrArg k0_pay1 (acc_after _ _ _ _ _ _ _ _ _ _ _ _ _ _ _ _ _ _ _ _ _ _ _ _ _ _ _ _ _ _ _ _ _ _ _ _ _ _ _ _ _ _ _ _ _ _ _ _ ?_)) e7) e8) e9).trans ?_
  · exact (congrArg (pb_k0_t2 (F := F) _ _ _ _ _ _ _ _ _ _ _ _ _ _ _ _ _ _ _ _ _ _ _ _ _ _ _ _ _ _ _ _ _ _ _ _ _ _ _ _ _ _ _ _ _ _ _ _ _) (trips2_eq _ _ h1 h2)).trans rfl
  · rw [e9, e5, e6, harg13.read_unread, harg14.read_unread]
    rfl

end Cert.KernelTrip

end
-- ==== Proof.KernelPoint.lean ====
/- One grid point of the kernel, continued: the first point, which computes the kept products, and the copied block. -/
module

public import proofs.«01_k».proof.Proof.KernelTrip

@[expose] public section

noncomputable section

namespace Cert.KernelTrip

open Cert.KernelIdeal Cert.KernelIdeal.Gen
open Idealize.ShloMosaic Idealize.ShloMosaic.TcCoe

variable {F : FTy → Type} [FloatOps F]

/-- The zero offsets of a whole block of rank three. -/
theorem off000 : (![0, 0, 0] : Fin 3 → Nat) = fun _ => 0 := by decide

/-- The zero offsets of a whole block of rank four. -/
theorem off0000 : (![0, 0, 0, 0] : Fin 4 → Nat) = fun _ => 0 := by decide

/-- The block copied is the block read. -/
theorem pay14_eq (x : Vec F S1x8192x128 .f32) : k0_pay14 x = x := by
  unfold k0_pay14
  exact shapeCast_self x _

/-- A view reads back the one block stored over the whole of it. -/
theorem read_one {S : Shape} {e : EltTy} {sp : Space} (v : View sig .tc sp S e) {off : Fin S.rank → Nat} (h0 : off = fun _ => 0)
    {inb : ∀ i, off i + S.size i ≤ S.size i} (f : BufTy.Contents (Elt F) v.ty) (x : (Rect.unit (s := S) off S.size inb).shape.Idx → Elt F e) :
    v.read (Elt F) (v.writes (Elt F) f [⟨Rect.unit (s := S) off S.size inb, x⟩]) = x := by
  rw [View.read_writes_eq_canon _ _ _ (fun y => ⟨_, List.mem_singleton_self _, View.mem_set_unit_zero h0 inb y⟩),
    View.canon_unit_zero h0]

/-- A point copies its block of `feature` into the second output (A). -/
theorem out9A (c : Dev nD) (i : grid0.Coords) (arg3 : Memref sig .tc .vmem S64x64 .f32) (harg3 : arg3.IsWhole) (arg4 : Memref sig .tc .vmem S64x66048 .f32) (harg4 : arg4.IsWhole) (arg5 : Memref sig .tc .vmem S256x2 .f32) (harg5 : arg5.IsWhole) (arg6 : Memref sig .tc .vmem S256x1 .i32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x8192x128 .f32) (harg10 : arg10.IsWhole) (arg11 : Memref sig .tc .vmem S256x256 .f32) (harg11 : arg11.IsWhole) (arg12 : Memref sig .tc .vmem S1x8192x128 .f32) (harg12 : arg12.IsWhole) (arg13 : Memref sig .tc .vmem S16x4x128x512 .f32) (harg13 : arg13.IsWhole) (arg14 : Memref sig .tc .vmem S64x512 .f32) (harg14 : arg14.IsWhole) (arg15 : Memref sig .tc .vmem S256x512 .f32) (harg15 : arg15.IsWhole) (hc0 : cond0_0 i)
    (x0 : Vec F S64x64 .f32) (x1 : Vec F S64x66048 .f32) (x2 : Vec F S256x2 .f32) (x3 : Vec F S256x1 .i32) (x4 : Vec F S512x256 .f32) (x5 : Vec F S1x256 .f32) (x6 : Vec F S256x256 .f32) (x7 : Vec F S1x8192x128 .f32) (xt0 : TbBuf0 (F := F) c tbM0_0) (xt1 : TbBuf0 (F := F) c tbM0_1) (k0_hw1 : k0_chk1 (tbM0_0.view.readAt (Elt F) (Rect.unit (s := S16) (k0_off1 i) S1.size (k0_off1_inb i)).toLoadRect xt0 (Shape.Idx.first (numel1_S1.symm ▸ Nat.one_pos))) (tbM0_1.view.readAt (Elt F) (Rect.unit (s := S16) (k0_off1 i) S1.size (k0_off1_inb i)).toLoadRect xt1 (Shape.Idx.first (numel1_S1.symm ▸ Nat.one_pos)))) :
    out0_A_9 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 k0_hw1 = x7 := by
  have e10 : arg10.view.readAt (Elt F) (Rect.unit (s := S1x8192x128) ![0, 0, 0] S1x8192x128.size inb_S1x8192x128_S1x8192x128_0_0_0).toLoadRect (harg10.unread x7) = x7 := by
    rw [View.readAt_eq_ld, harg10.read_unread, View.ld_unit_zero off000]
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 k0_hw1)]
  unfold kernelRun0_A
  dsimp only
  sl_unfold_words
  rw [View.canon_unit_zero off000, e10, pay14_eq]

/-- A point copies its block of `feature` into the second output (B). -/
theorem out9B (c : Dev nD) (i : grid0.Coords) (arg3 : Memref sig .tc .vmem S64x64 .f32) (harg3 : arg3.IsWhole) (arg4 : Memref sig .tc .vmem S64x66048 .f32) (harg4 : arg4.IsWhole) (arg5 : Memref sig .tc .vmem S256x2 .f32) (harg5 : arg5.IsWhole) (arg6 : Memref sig .tc .vmem S256x1 .i32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x8192x128 .f32) (harg10 : arg10.IsWhole) (arg11 : Memref sig .tc .vmem S256x256 .f32) (harg11 : arg11.IsWhole) (arg12 : Memref sig .tc .vmem S1x8192x128 .f32) (harg12 : arg12.IsWhole) (arg13 : Memref sig .tc .vmem S16x4x128x512 .f32) (harg13 : arg13.IsWhole) (arg14 : Memref sig .tc .vmem S64x512 .f32) (harg14 : arg14.IsWhole) (arg15 : Memref sig .tc .vmem S256x512 .f32) (harg15 : arg15.IsWhole) (hc0 : ¬cond0_0 i)
    (x0 : Vec F S64x64 .f32) (x1 : Vec F S64x66048 .f32) (x2 : Vec F S256x2 .f32) (x3 : Vec F S256x1 .i32) (x4 : Vec F S512x256 .f32) (x5 : Vec F S1x256 .f32) (x6 : Vec F S256x256 .f32) (x7 : Vec F S1x8192x128 .f32) (xt0 : TbBuf0 (F := F) c tbM0_0) (xt1 : TbBuf0 (F := F) c tbM0_1) (xs0 : Vec F S16x4x128x512 .f32) (xs1 : Vec F S64x512 .f32) (k0_hw1 : k0_chk1 (tbM0_0.view.readAt (Elt F) (Rect.unit (s := S16) (k0_off1 i) S1.size (k0_off1_inb i)).toLoadRect xt0 (Shape.Idx.first (numel1_S1.symm ▸ Nat.one_pos))) (tbM0_1.view.readAt (Elt F) (Rect.unit (s := S16) (k0_off1 i) S1.size (k0_off1_inb i)).toLoadRect xt1 (Shape.Idx.first (numel1_S1.symm ▸ Nat.one_pos)))) :
    out0_B_9 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 xs0 xs1 k0_hw1 = x7 := by
  have e10 : arg10.view.readAt (Elt F) (Rect.unit (s := S1x8192x128) ![0, 0, 0] S1x8192x128.size inb_S1x8192x128_S1x8192x128_0_0_0).toLoadRect (harg10.unread x7) = x7 := by
    rw [View.readAt_eq_ld, harg10.read_unread, View.ld_unit_zero off000]
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 xs0 xs1 k0_hw1)]
  unfold kernelRun0_B
  dsimp only
  sl_unfold_words
  rw [View.canon_unit_zero off000, e10, pay14_eq]

/-- The first point leaves `k0_pay16` of the feature block and the weights block in the kept products 0. -/
theorem sA0 (c : Dev nD) (i : grid0.Coords) (arg3 : Memref sig .tc .vmem S64x64 .f32) (harg3 : arg3.IsWhole) (arg4 : Memref sig .tc .vmem S64x66048 .f32) (harg4 : arg4.IsWhole) (arg5 : Memref sig .tc .vmem S256x2 .f32) (harg5 : arg5.IsWhole) (arg6 : Memref sig .tc .vmem S256x1 .i32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x8192x128 .f32) (harg10 : arg10.IsWhole) (arg11 : Memref sig .tc .vmem S256x256 .f32) (harg11 : arg11.IsWhole) (arg12 : Memref sig .tc .vmem S1x8192x128 .f32) (harg12 : arg12.IsWhole) (arg13 : Memref sig .tc .vmem S16x4x128x512 .f32) (harg13 : arg13.IsWhole) (arg14 : Memref sig .tc .vmem S64x512 .f32) (harg14 : arg14.IsWhole) (arg15 : Memref sig .tc .vmem S256x512 .f32) (harg15 : arg15.IsWhole) (hc0 : cond0_0 i)
    (x0 : Vec F S64x64 .f32) (x1 : Vec F S64x66048 .f32) (x2 : Vec F S256x2 .f32) (x3 : Vec F S256x1 .i32) (x4 : Vec F S512x256 .f32) (x5 : Vec F S1x256 .f32) (x6 : Vec F S256x256 .f32) (x7 : Vec F S1x8192x128 .f32) (xt0 : TbBuf0 (F := F) c tbM0_0) (xt1 : TbBuf0 (F := F) c tbM0_1) (k0_hw1 : k0_chk1 (tbM0_0.view.readAt (Elt F) (Rect.unit (s := S16) (k0_off1 i) S1.size (k0_off1_inb i)).toLoadRect xt0 (Shape.Idx.first (numel1_S1.symm ▸ Nat.one_pos))) (tbM0_1.view.readAt (Elt F) (Rect.unit (s := S16) (k0_off1 i) S1.size (k0_off1_inb i)).toLoadRect xt1 (Shape.Idx.first (numel1_S1.symm ▸ Nat.one_pos)))) :
    sout0_A_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 k0_hw1 = k0_pay16 x0 x1 := by
  have e3 : arg3.view.readAt (Elt F) (Rect.unit (s := S64x64) ![0, 0] S64x64.size inb_S64x64_S64x64_0_0).toLoadRect (harg3.unread x0) = x0 := by
    rw [View.readAt_eq_ld, harg3.read_unread, View.ld_unit_zero off00]
  have e4 : arg4.view.readAt (Elt F) (Rect.unit (s := S64x66048) ![0, 0] S64x66048.size inb_S64x66048_S64x66048_0_0).toLoadRect (harg4.unread x1) = x1 := by
    rw [View.readAt_eq_ld, harg4.read_unread, View.ld_unit_zero off00]
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 k0_hw1)]
  unfold kernelRun0_A
  dsimp only
  sl_unfold_words
  rw [View.canon_unit_zero off0000, e3, e4]

/-- The first point leaves `k0_pay17` of the feature block and the weights block in the kept products 1. -/
theorem sA1 (c : Dev nD) (i : grid0.Coords) (arg3 : Memref sig .tc .vmem S64x64 .f32) (harg3 : arg3.IsWhole) (arg4 : Memref sig .tc .vmem S64x66048 .f32) (harg4 : arg4.IsWhole) (arg5 : Memref sig .tc .vmem S256x2 .f32) (harg5 : arg5.IsWhole) (arg6 : Memref sig .tc .vmem S256x1 .i32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x8192x128 .f32) (harg10 : arg10.IsWhole) (arg11 : Memref sig .tc .vmem S256x256 .f32) (harg11 : arg11.IsWhole) (arg12 : Memref sig .tc .vmem S1x8192x128 .f32) (harg12 : arg12.IsWhole) (arg13 : Memref sig .tc .vmem S16x4x128x512 .f32) (harg13 : arg13.IsWhole) (arg14 : Memref sig .tc .vmem S64x512 .f32) (harg14 : arg14.IsWhole) (arg15 : Memref sig .tc .vmem S256x512 .f32) (harg15 : arg15.IsWhole) (hc0 : cond0_0 i)
    (x0 : Vec F S64x64 .f32) (x1 : Vec F S64x66048 .f32) (x2 : Vec F S256x2 .f32) (x3 : Vec F S256x1 .i32) (x4 : Vec F S512x256 .f32) (x5 : Vec F S1x256 .f32) (x6 : Vec F S256x256 .f32) (x7 : Vec F S1x8192x128 .f32) (xt0 : TbBuf0 (F := F) c tbM0_0) (xt1 : TbBuf0 (F := F) c tbM0_1) (k0_hw1 : k0_chk1 (tbM0_0.view.readAt (Elt F) (Rect.unit (s := S16) (k0_off1 i) S1.size (k0_off1_inb i)).toLoadRect xt0 (Shape.Idx.first (numel1_S1.symm ▸ Nat.one_pos))) (tbM0_1.view.readAt (Elt F) (Rect.unit (s := S16) (k0_off1 i) S1.size (k0_off1_inb i)).toLoadRect xt1 (Shape.Idx.first (numel1_S1.symm ▸ Nat.one_pos)))) :
    sout0_A_1 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 k0_hw1 = k0_pay17 x0 x1 := by
  have e3 : arg3.view.readAt (Elt F) (Rect.unit (s := S64x64) ![0, 0] S64x64.size inb_S64x64_S64x64_0_0).toLoadRect (harg3.unread x0) = x0 := by
    rw [View.readAt_eq_ld, harg3.read_unread, View.ld_unit_zero off00]
  have e4 : arg4.view.readAt (Elt F) (Rect.unit (s := S64x66048) ![0, 0] S64x66048.size inb_S64x66048_S64x66048_0_0).toLoadRect (harg4.unread x1) = x1 := by
    rw [View.readAt_eq_ld, harg4.read_unread, View.ld_unit_zero off00]
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 k0_hw1)]
  unfold kernelRun0_A
  dsimp only
  sl_unfold_words
  rw [View.canon_unit_zero off00, e3, e4]

/-- The first point leaves `ptVal` of the products it has just stored. -/
theorem outA (c : Dev nD) (i : grid0.Coords) (arg3 : Memref sig .tc .vmem S64x64 .f32) (harg3 : arg3.IsWhole) (arg4 : Memref sig .tc .vmem S64x66048 .f32) (harg4 : arg4.IsWhole) (arg5 : Memref sig .tc .vmem S256x2 .f32) (harg5 : arg5.IsWhole) (arg6 : Memref sig .tc .vmem S256x1 .i32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x8192x128 .f32) (harg10 : arg10.IsWhole) (arg11 : Memref sig .tc .vmem S256x256 .f32) (harg11 : arg11.IsWhole) (arg12 : Memref sig .tc .vmem S1x8192x128 .f32) (harg12 : arg12.IsWhole) (arg13 : Memref sig .tc .vmem S16x4x128x512 .f32) (harg13 : arg13.IsWhole) (arg14 : Memref sig .tc .vmem S64x512 .f32) (harg14 : arg14.IsWhole) (arg15 : Memref sig .tc .vmem S256x512 .f32) (harg15 : arg15.IsWhole) (hc0 : cond0_0 i)
    (x0 : Vec F S64x64 .f32) (x1 : Vec F S64x66048 .f32) (x2 : Vec F S256x2 .f32) (x3 : Vec F S256x1 .i32) (x4 : Vec F S512x256 .f32) (x5 : Vec F S1x256 .f32) (x6 : Vec F S256x256 .f32) (x7 : Vec F S1x8192x128 .f32) (xt0 : TbBuf0 (F := F) c tbM0_0) (xt1 : TbBuf0 (F := F) c tbM0_1) (k0_hw1 : k0_chk1 (tbM0_0.view.readAt (Elt F) (Rect.unit (s := S16) (k0_off1 i) S1.size (k0_off1_inb i)).toLoadRect xt0 (Shape.Idx.first (numel1_S1.symm ▸ Nat.one_pos))) (tbM0_1.view.readAt (Elt F) (Rect.unit (s := S16) (k0_off1 i) S1.size (k0_off1_inb i)).toLoadRect xt1 (Shape.Idx.first (numel1_S1.symm ▸ Nat.one_pos)))) (h1 : (word c i tbM0_0 xt0).toNat < 16) (h2 : (word c i tbM0_1 xt1).toNat < 16) :
    out0_A_8 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 k0_hw1 = ptVal _ _ k0_hw1 (k0_pay16 x0 x1) (k0_pay17 x0 x1) x2 x3 x4 x5 x6 := by
  have e9 : arg9.view.readAt (Elt F) (Rect.unit (s := S256x256) ![0, 0] S256x256.size inb_S256x256_S256x256_0_0).toLoadRect (harg9.unread x6) = x6 := by
    rw [View.readAt_eq_ld, harg9.read_unread, View.ld_unit_zero off00]
  have e5 : arg5.view.readAt (Elt F) (Rect.unit (s := S256x2) ![0, 0] S256x2.size inb_S256x2_S256x2_0_0).toLoadRect (harg5.unread x2) = x2 := by
    rw [View.readAt_eq_ld, harg5.read_unread, View.ld_unit_zero off00]
  have e6 : arg6.view.readAt (Elt F) (Rect.unit (s := S256x1) ![0, 0] S256x1.size inb_S256x1_S256x1_0_0).toLoadRect (harg6.unread x3) = x3 := by
    rw [View.readAt_eq_ld, harg6.read_unread, View.ld_unit_zero off00]
  have e7 : arg7.view.readAt (Elt F) (Rect.unit (s := S512x256) ![0, 0] S512x256.size inb_S512x256_S512x256_0_0).toLoadRect (harg7.unread x4) = x4 := by
    rw [View.readAt_eq_ld, harg7.read_unread, View.ld_unit_zero off00]
  have e8 : arg8.view.readAt (Elt F) (Rect.unit (s := S1x256) ![0, 0] S1x256.size inb_S1x256_S1x256_0_0).toLoadRect (harg8.unread x5) = x5 := by
    rw [View.readAt_eq_ld, harg8.read_unread, View.ld_unit_zero off00]
  have e3 : arg3.view.readAt (Elt F) (Rect.unit (s := S64x64) ![0, 0] S64x64.size inb_S64x64_S64x64_0_0).toLoadRect (harg3.unread x0) = x0 := by
    rw [View.readAt_eq_ld, harg3.read_unread, View.ld_unit_zero off00]
  have e4 : arg4.view.readAt (Elt F) (Rect.unit (s := S64x66048) ![0, 0] S64x66048.size inb_S64x66048_S64x66048_0_0).toLoadRect (harg4.unread x1) = x1 := by
    rw [View.readAt_eq_ld, harg4.read_unread, View.ld_unit_zero off00]
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xt0 xt1 k0_hw1)]
  unfold kernelRun0_A
  dsimp only
  sl_unfold_words
  rw [View.canon_unit_zero off00]
  refine (congr (congr (congr (congrArg k0_pay1 (acc_after _ _ _ _ _ _ _ _ _ _ _ _ _ _ _ _ _ _ _ _ _ _ _ _ _ _ _ _ _ _ _ _ _ _ _ _ _ _ _ _ _ _ _ _ _ _ _ _ ?_)) e7) e8) e9).trans ?_
  · exact (congrArg (pb_k0_t2 (F := F) _ _ _ _ _ _ _ _ _ _ _ _ _ _ _ _ _ _ _ _ _ _ _ _ _ _ _ _ _ _ _ _ _ _ _ _ _ _ _ _ _ _ _ _ _ _ _ _ _) (trips2_eq _ _ h1 h2)).trans rfl
  · rw [e9, e5, e6,
      read_one arg13.view off0000, read_one arg14.view off00, e3, e4]
    rfl

end Cert.KernelTrip
-- ==== Proof.KernelArray.lean ====
/- What the kernel's arrays hold after the run: every point's blocks of the two outputs, as functions of what the
   arguments' blocks hold. -/
module

public import proofs.«01_k».proof.Proof.KernelPoint
public import proofs.«01_k».proof.Proof.IdealFrame

@[expose] public section

noncomputable section

namespace Cert.KernelArray

open Cert.KernelIdeal Cert.KernelIdeal.Gen Cert.KernelTrip
open Idealize.ShloMosaic Idealize.ShloMosaic.TcCoe Idealize.ShloMosaic.StableHlo

/-- A point's coordinate is its number. -/
theorem coords_val : ∀ t : Fin grid0.N, ((grid0.coords t) 0).val = t.val := by decide +kernel

/-- The block a point takes of an array cut by rows. -/
theorem rows_index : ∀ t : Fin grid0.N, cc0_transform_8 (grid0.coords t) = ![t.val, 0] ∧ cc0_transform_9 (grid0.coords t) = ![t.val, 0, 0]
    ∧ cc0_transform_2 (grid0.coords t) = ![t.val, 0] ∧ cc0_transform_3 (grid0.coords t) = ![t.val, 0]
    ∧ cc0_transform_6 (grid0.coords t) = ![t.val, 0] ∧ cc0_transform_7 (grid0.coords t) = ![t.val, 0, 0] := by decide +kernel

/-- The one block of an array that is not cut. -/
theorem whole_index : ∀ t : Fin grid0.N, cc0_transform_0 (grid0.coords t) = ![0, 0] ∧ cc0_transform_1 (grid0.coords t) = ![0, 0]
    ∧ cc0_transform_4 (grid0.coords t) = ![0, 0] ∧ cc0_transform_5 (grid0.coords t) = ![0, 0] := by decide +kernel

variable {F : FTy → Type} [FloatOps F] (m : (ℓ : Loc nD τ sig) → Buf (Elt F) ℓ)

/-- Row `p` of a point's block of centres. -/
theorem iblk2 (hO : Ok m) (c : Dev nD) (t : Fin (cfgM m hO).N) (p : Fin 256) (q : Fin 2) (hp : 256 * t.val + p.val < 4096) :
    (iblk m hO c 2 t : Vec F S256x2 .f32) (ValueIdx.ix2 p q)
      = (V m c main_arg1 : Vec F S4096x2 .f32) (ValueIdx.ix2 ⟨256 * t.val + p.val, hp⟩ q) := by
  unfold iblk
  show V m c main_arg1 _ = V m c main_arg1 _
  congr 1
  funext a
  apply Fin.ext
  match a with
  | ⟨0, _⟩ =>
    show cc0_transform_2 (grid0.coords t) 0 * 256 + 1 * p.val = 256 * t.val + p.val
    rw [(rows_index t).2.2.1]; show t.val * 256 + 1 * p.val = _; omega
  | ⟨1, _⟩ =>
    show cc0_transform_2 (grid0.coords t) 1 * 2 + 1 * q.val = q.val
    rw [(rows_index t).2.2.1]; show 0 * 2 + 1 * q.val = _; omega

/-- Row `p` of a point's block of image numbers. -/
theorem iblk3 (hO : Ok m) (c : Dev nD) (t : Fin (cfgM m hO).N) (p : Fin 256) (q : Fin 1) (hp : 256 * t.val + p.val < 4096) :
    (iblk m hO c 3 t : Vec F S256x1 .i32) (ValueIdx.ix2 p q)
      = (V m c main_v5 : Vec F S4096x1 .i32) (ValueIdx.ix2 ⟨256 * t.val + p.val, hp⟩ q) := by
  unfold iblk
  show V m c main_v5 _ = V m c main_v5 _
  congr 1
  funext a
  apply Fin.ext
  match a with
  | ⟨0, _⟩ =>
    show cc0_transform_3 (grid0.coords t) 0 * 256 + 1 * p.val = 256 * t.val + p.val
    rw [(rows_index t).2.2.2.1]; show t.val * 256 + 1 * p.val = _; omega
  | ⟨1, _⟩ =>
    show cc0_transform_3 (grid0.coords t) 1 * 1 + 1 * q.val = q.val
    rw [(rows_index t).2.2.2.1]; show 0 * 1 + 1 * q.val = _; omega

/-- Row `p` of a point's block of points. -/
theorem iblk6 (hO : Ok m) (c : Dev nD) (t : Fin (cfgM m hO).N) (p : Fin 256) (q : Fin 256) (hp : 256 * t.val + p.val < 4096) :
    (iblk m hO c 6 t : Vec F S256x256 .f32) (ValueIdx.ix2 p q)
      = (V m c main_v11 : Vec F S4096x256 .f32) (ValueIdx.ix2 ⟨256 * t.val + p.val, hp⟩ q) := by
  unfold iblk
  show V m c main_v11 _ = V m c main_v11 _
  congr 1
  funext a
  apply Fin.ext
  match a with
  | ⟨0, _⟩ =>
    show cc0_transform_6 (grid0.coords t) 0 * 256 + 1 * p.val = 256 * t.val + p.val
    rw [(rows_index t).2.2.2.2.1]; show t.val * 256 + 1 * p.val = _; omega
  | ⟨1, _⟩ =>
    show cc0_transform_6 (grid0.coords t) 1 * 256 + 1 * q.val = q.val
    rw [(rows_index t).2.2.2.2.1]; show 0 * 256 + 1 * q.val = _; omega

/-- Every point's block of the gathered features is the whole. -/
theorem iblk0 (hO : Ok m) (c : Dev nD) (t : Fin (cfgM m hO).N) : (iblk m hO c 0 t : Vec F S64x64 .f32) = (V m c main_v2 : Vec F S64x64 .f32) := by
  refine funext fun (j : S64x64.Idx) => ?_
  unfold iblk
  show V m c main_v2 _ = V m c main_v2 j
  congr 1
  funext a
  apply Fin.ext
  match a with
  | ⟨0, _⟩ =>
    show cc0_transform_0 (grid0.coords t) 0 * 64 + 1 * (j 0).val = (j 0).val
    rw [(whole_index t).1]; show 0 * 64 + 1 * (j 0).val = _; omega
  | ⟨1, _⟩ =>
    show cc0_transform_0 (grid0.coords t) 1 * 64 + 1 * (j 1).val = (j 1).val
    rw [(whole_index t).1]; show 0 * 64 + 1 * (j 1).val = _; omega

/-- Every point's block of the first weights is the whole. -/
theorem iblk1 (hO : Ok m) (c : Dev nD) (t : Fin (cfgM m hO).N) : (iblk m hO c 1 t : Vec F S64x66048 .f32) = (V m c main_v4 : Vec F S64x66048 .f32) := by
  refine funext fun (j : S64x66048.Idx) => ?_
  unfold iblk
  show V m c main_v4 _ = V m c main_v4 j
  congr 1
  funext a
  apply Fin.ext
  match a with
  | ⟨0, _⟩ =>
    show cc0_transform_1 (grid0.coords t) 0 * 64 + 1 * (j 0).val = (j 0).val
    rw [(whole_index t).2.1]; show 0 * 64 + 1 * (j 0).val = _; omega
  | ⟨1, _⟩ =>
    show cc0_transform_1 (grid0.coords t) 1 * 66048 + 1 * (j 1).val = (j 1).val
    rw [(whole_index t).2.1]; show 0 * 66048 + 1 * (j 1).val = _; omega

/-- Every point's block of the second weights is the whole. -/
theorem iblk4 (hO : Ok m) (c : Dev nD) (t : Fin (cfgM m hO).N) : (iblk m hO c 4 t : Vec F S512x256 .f32) = (V m c main_v9 : Vec F S512x256 .f32) := by
  refine funext fun (j : S512x256.Idx) => ?_
  unfold iblk
  show V m c main_v9 _ = V m c main_v9 j
  congr 1
  funext a
  apply Fin.ext
  match a with
  | ⟨0, _⟩ =>
    show cc0_transform_4 (grid0.coords t) 0 * 512 + 1 * (j 0).val = (j 0).val
    rw [(whole_index t).2.2.1]; show 0 * 512 + 1 * (j 0).val = _; omega
  | ⟨1, _⟩ =>
    show cc0_transform_4 (grid0.coords t) 1 * 256 + 1 * (j 1).val = (j 1).val
    rw [(whole_index t).2.2.1]; show 0 * 256 + 1 * (j 1).val = _; omega

/-- Every point's block of the bias is the whole. -/
theorem iblk5 (hO : Ok m) (c : Dev nD) (t : Fin (cfgM m hO).N) : (iblk m hO c 5 t : Vec F S1x256 .f32) = (V m c main_v10 : Vec F S1x256 .f32) := by
  refine funext fun (j : S1x256.Idx) => ?_
  unfold iblk
  show V m c main_v10 _ = V m c main_v10 j
  congr 1
  funext a
  apply Fin.ext
  match a with
  | ⟨0, _⟩ =>
    show cc0_transform_5 (grid0.coords t) 0 * 1 + 1 * (j 0).val = (j 0).val
    rw [(whole_index t).2.2.2]; show 0 * 1 + 1 * (j 0).val = _; omega
  | ⟨1, _⟩ =>
    show cc0_transform_5 (grid0.coords t) 1 * 256 + 1 * (j 1).val = (j 1).val
    rw [(whole_index t).2.2.2]; show 0 * 256 + 1 * (j 1).val = _; omega

/-- The first of the kept products: the combined features of every image, corner and sampled point. -/
def vmK (c : Dev nD) : Vec F S16x4x128x512 .f32 := k0_pay16 (V m c main_v2) (V m c main_v4)

/-- The second of the kept products: the same at every centre. -/
def vcK (c : Dev nD) : Vec F S64x512 .f32 := k0_pay17 (V m c main_v2) (V m c main_v4)

/-- The first point leaves the kept products. -/
theorem kept_first (hO : Ok m) (hH : Hyps m hO) (c : Dev nD) (t : Fin (cfgM m hO).N) (h0 : t.val % 16 = 0) :
    (outsAt0 m hO hH c t.val t.isLt).2.2.1 = vmK m c ∧ (outsAt0 m hO hH c t.val t.isLt).2.2.2 = vcK m c := by
  have e0 := sA0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (tbl m 0) (tbl m 1) (Hyps.c0 hH c t)
  have e1 := sA1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (tbl m 0) (tbl m 1) (Hyps.c0 hH c t)
  rw [outsAt0_A m hO hH c t h0]
  dsimp only
  constructor
  · with_reducible refine Eq.trans e0 ?_
    rw [iblk0, iblk1]
    rfl
  · with_reducible refine Eq.trans e1 ?_
    rw [iblk0, iblk1]
    rfl

/-- A later point keeps them. -/
theorem kept_later (hO : Ok m) (hH : Hyps m hO) (c : Dev nD) (t : Fin (cfgM m hO).N) (h0 : ¬ t.val % 16 = 0) :
    (outsAt0 m hO hH c t.val t.isLt).2.2 = (outsAt0 m hO hH c (t.val - 1) (Nat.lt_of_le_of_lt (Nat.sub_le _ _) t.isLt)).2.2 := by
  rw [outsAt0_B m hO hH c t h0]
  rfl

/-- After every point the kept products are what the first point left. -/
theorem kept (hO : Ok m) (hH : Hyps m hO) (c : Dev nD) : ∀ (n : ℕ) (hn : n < (cfgM m hO).N),
    (outsAt0 m hO hH c n hn).2.2.1 = vmK m c ∧ (outsAt0 m hO hH c n hn).2.2.2 = vcK m c
  | 0, hn => kept_first m hO hH c ⟨0, hn⟩ rfl
  | n + 1, hn => by
    have hN : n + 1 < 16 := Nat.lt_of_lt_of_eq hn N_0
    have e := kept_later m hO hH c ⟨n + 1, hn⟩ (by dsimp only; omega)
    rw [e]
    exact kept hO hH c n _

/-- What a point leaves in its block of the second output is its block of `feature`. -/
theorem copied (hO : Ok m) (hH : Hyps m hO) (c : Dev nD) (t : Fin (cfgM m hO).N) :
    (outsAt0 m hO hH c t.val t.isLt).2.1 = iblk m hO c 7 t := by
  by_cases h0 : t.val % 16 = 0
  · have e := out9A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (tbl m 0) (tbl m 1) (Hyps.c0 hH c t)
    rw [outsAt0_A m hO hH c t h0]
    dsimp only
    with_reducible exact e
  · have e := out9B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2 (Hyps.c0 hH c t)
    rw [outsAt0_B m hO hH c t h0]
    dsimp only
    with_reducible exact e

/-- What a point leaves in its block of the first output. -/
theorem point (hO : Ok m) (hH : Hyps m hO) (c : Dev nD) (t : Fin (cfgM m hO).N)
    (h1 : (word c (grid0.coords t) tbM0_0 (tbl m 0)).toNat < 16) (h2 : (word c (grid0.coords t) tbM0_1 (tbl m 1)).toNat < 16) :
    (outsAt0 m hO hH c t.val t.isLt).1
      = ptVal _ _ (Hyps.c0 hH c t) (vmK m c) (vcK m c) (iblk m hO c 2 t) (iblk m hO c 3 t) (V m c main_v9) (V m c main_v10) (iblk m hO c 6 t) := by
  by_cases h0 : t.val % 16 = 0
  · have e := outA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (iblk m hO c 5 t) (iblk m hO c 6 t) (iblk m hO c 7 t) (tbl m 0) (tbl m 1) (Hyps.c0 hH c t) h1 h2
    rw [outsAt0_A m hO hH c t h0]
    dsimp only
    with_reducible refine Eq.trans e ?_
    rw [iblk0, iblk1, iblk4, iblk5]
    rfl
  · have e := outB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (tbl m 0) (tbl m 1) (outsAt0 m hO hH c (t.val - 1) (Nat.lt_of_le_of_lt (Nat.sub_le _ _) t.isLt)).2.2.1 (outsAt0 m hO hH c (t.val - 1) (Nat.lt_of_le_of_lt (Nat.sub_le _ _) t.isLt)).2.2.2 (Hyps.c0 hH c t) h1 h2
    rw [outsAt0_B m hO hH c t h0]
    dsimp only
    with_reducible refine Eq.trans e ?_
    rw [iblk4, iblk5, (kept m hO hH c _ _).1, (kept m hO hH c _ _).2]

end Cert.KernelArray
-- ==== Proof.KernelRun.lean ====
/- The kernel's run read at its two results: the first is the array of the points' blocks, the second is `feature`. -/
module

public import proofs.«01_k».proof.Proof.KernelArray

@[expose] public section

noncomputable section

namespace Cert.KernelRun

open Cert.KernelIdeal Cert.KernelIdeal.Gen Cert.KernelTrip Cert.KernelArray
open Idealize.ShloMosaic Idealize.ShloMosaic.TcCoe Idealize.ShloMosaic.StableHlo

variable {F : FTy → Type} [FloatOps F] (m : (ℓ : Loc nD τ sig) → Buf (Elt F) ℓ) (ρ : Dev nD → PrngReg)

/-- The point that computes row `p` of the first output. -/
def ptOf (hO : Ok m) (p : Fin 4096) : Fin (cfgM m hO).N := ⟨p.val / 256, by have := p.isLt; rw [show (cfgM m hO).N = 16 from N_0]; omega⟩

/-- The first output, row by row: row `p` is row `p % 256` of the block of point `p / 256`. -/
def out8 (hO : Ok m) (hH : Hyps m hO) (c : Dev nD) : Vec F S4096x256 .f32 := fun j =>
  (outsAt0 m hO hH c (ptOf m hO (j 0)).val (ptOf m hO (j 0)).isLt).1 (ValueIdx.ix2 ⟨(j 0).val % 256, Nat.mod_lt _ (by decide)⟩ (j 1))

/-- What a point writes back of the first output is its block of `out8`. -/
theorem flushed8 (hO : Ok m) (hH : Hyps m hO) (c : Dev nD) (t : Fin (cfgM m hO).N) :
    (dats m hO hH 0 c).flushed 8 t = (((cfgM m hO).win 8).blk t).view.read (Elt F) (out8 m hO hH c) := by
  show ((cfgM m hO).win 8).cut (grid0.coords t) ((dats m hO hH 0 c).after 8 t) = _
  rw [after0_8]
  refine funext fun (j : S256x256.Idx) => ?_
  have hr : ∀ (s : Fin (cfgM m hO).N) (y : S256x256.Idx), s = t → y = j →
      (outsAt0 m hO hH c t.val t.isLt).1 j = (outsAt0 m hO hH c s.val s.isLt).1 y := by
    intro s y e1 e2; subst e1; subst e2; rfl
  have hj : (j 0).val < 256 := (j 0).isLt
  have e0 : cc0_transform_8 (grid0.coords t) 0 * 256 + 1 * (j 0).val = 256 * t.val + (j 0).val := by
    rw [(rows_index t).1]; show t.val * 256 + 1 * (j 0).val = _; omega
  have e1 : cc0_transform_8 (grid0.coords t) 1 * 256 + 1 * (j 1).val = (j 1).val := by
    rw [(rows_index t).1]; show 0 * 256 + 1 * (j 1).val = _; omega
  refine hr _ _ (Fin.ext ?_) (funext fun a => Fin.ext ?_)
  · show (cc0_transform_8 (grid0.coords t) 0 * 256 + 1 * (j 0).val) / 256 = t.val
    rw [e0]; omega
  · match a with
    | ⟨0, _⟩ => show (cc0_transform_8 (grid0.coords t) 0 * 256 + 1 * (j 0).val) % 256 = (j 0).val; rw [e0]; omega
    | ⟨1, _⟩ => exact e1

/-- What a point writes back of the second output is its block of the viewed `feature`. -/
theorem flushed9 (hO : Ok m) (hH : Hyps m hO) (c : Dev nD) (t : Fin (cfgM m hO).N) :
    (dats m hO hH 0 c).flushed 9 t = (((cfgM m hO).win 9).blk t).view.read (Elt F) (V m c main_v8) := by
  show ((cfgM m hO).win 9).cut (grid0.coords t) ((dats m hO hH 0 c).after 9 t) = _
  rw [after0_9, copied]
  refine funext fun (j : S1x8192x128.Idx) => ?_
  unfold iblk
  show V m c main_v8 _ = V m c main_v8 _
  congr 1

/-- The first output array ends at `out8`. -/
theorem final8 (hO : Ok m) (hH : Hyps m hO) (c : Dev nD) : (dats m hO hH 0 c).arrAt 8 (cfgM m hO).N = out8 m hO hH c :=
  (dats m hO hH 0 c).arrAt_eq_of_cover 8 (out8 m hO hH c) (fun t _ => flushed8 m hO hH c t) fun (i : S4096x256.Idx) => by
    have h0 : (i 0 : Nat) < 4096 := (i 0).isLt
    have h1 : (i 1 : Nat) < 256 := (i 1).isLt
    obtain ⟨s, hs⟩ : ∃ s : Fin (cfgM m hO).N, s.val = (i 0 : Nat) / 256 :=
      ⟨⟨(i 0 : Nat) / 256, by rw [show (cfgM m hO).N = 16 from N_0]; omega⟩, rfl⟩
    refine ⟨s, flush0_8 _ _, ?_⟩
    refine Eq.mpr (congrArg (i ∈ ·) (View.set_slice_whole main_v12_0 (((cfgM m hO).win 8).rect s))) ?_
    refine Rect.mem_set_unit.mpr ?_
    intro a
    have e := (rows_index s).1
    match a with
    | ⟨0, _⟩ =>
      show cc0_transform_8 (grid0.coords s) 0 * 256 ≤ (i 0 : Nat) ∧ (i 0 : Nat) < cc0_transform_8 (grid0.coords s) 0 * 256 + 256
      rw [e]
      show s.val * 256 ≤ (i 0 : Nat) ∧ (i 0 : Nat) < s.val * 256 + 256
      omega
    | ⟨1, _⟩ =>
      show cc0_transform_8 (grid0.coords s) 1 * 256 ≤ (i 1 : Nat) ∧ (i 1 : Nat) < cc0_transform_8 (grid0.coords s) 1 * 256 + 256
      rw [e]
      show 0 * 256 ≤ (i 1 : Nat) ∧ (i 1 : Nat) < 0 * 256 + 256
      omega

/-- The second output array ends at the viewed `feature`. -/
theorem final9 (hO : Ok m) (hH : Hyps m hO) (c : Dev nD) : (dats m hO hH 0 c).arrAt 9 (cfgM m hO).N = V m c main_v8 :=
  (dats m hO hH 0 c).arrAt_eq_of_cover 9 (V m c main_v8) (fun t _ => flushed9 m hO hH c t) fun (i : S16x8192x128.Idx) => by
    have h0 : (i 0 : Nat) < 16 := (i 0).isLt
    have h1 : (i 1 : Nat) < 8192 := (i 1).isLt
    have h2 : (i 2 : Nat) < 128 := (i 2).isLt
    obtain ⟨s, hs⟩ : ∃ s : Fin (cfgM m hO).N, s.val = (i 0 : Nat) :=
      ⟨⟨(i 0 : Nat), by rw [show (cfgM m hO).N = 16 from N_0]; exact h0⟩, rfl⟩
    refine ⟨s, flush0_9 _ _, ?_⟩
    refine Eq.mpr (congrArg (i ∈ ·) (View.set_slice_whole main_v12_1 (((cfgM m hO).win 9).rect s))) ?_
    refine Rect.mem_set_unit.mpr ?_
    intro a
    have e := (rows_index s).2.1
    match a with
    | ⟨0, _⟩ =>
      show cc0_transform_9 (grid0.coords s) 0 * 1 ≤ (i 0 : Nat) ∧ (i 0 : Nat) < cc0_transform_9 (grid0.coords s) 0 * 1 + 1
      rw [e]
      show s.val * 1 ≤ (i 0 : Nat) ∧ (i 0 : Nat) < s.val * 1 + 1
      omega
    | ⟨1, _⟩ =>
      show cc0_transform_9 (grid0.coords s) 1 * 8192 ≤ (i 1 : Nat) ∧ (i 1 : Nat) < cc0_transform_9 (grid0.coords s) 1 * 8192 + 8192
      rw [e]
      show 0 * 8192 ≤ (i 1 : Nat) ∧ (i 1 : Nat) < 0 * 8192 + 8192
      omega
    | ⟨2, _⟩ =>
      show cc0_transform_9 (grid0.coords s) 2 * 128 ≤ (i 2 : Nat) ∧ (i 2 : Nat) < cc0_transform_9 (grid0.coords s) 2 * 128 + 128
      rw [e]
      show 0 * 128 ≤ (i 2 : Nat) ∧ (i 2 : Nat) < 0 * 128 + 128
      omega

/-- The view of `feature` that is copied is its reshape. -/
theorem V_v8 (c : Dev nD) : V m c main_v8 = shapeCast S16x8192x128 (m ((c : Thread nD τ).loc main_arg0) : Vec F S16x64x128x128 .f32) shapeCasts_S16x64x128x128_S16x8192x128 := by
  show StableHlo.after hostOps0 _ (Proc.devRef .tc main_v8) = _
  after_results <;> rfl

/-- No two windows name the same array. -/
theorem arr_inj : Function.Injective (Pipeline.arrRef spec0) := by decide

/-- The first result after the region: the first output, reshaped. -/
theorem tail13 (hO : Ok m) (hH : Hyps m hO) (c : Dev nD) :
    Pipeline.afterTail pcfgs (fun _ => adm m hO) (dats m hO hH) 0 (V0 m) [hostOps1] c main_v13
      = shapeCast S4096x128x2 (out8 m hO hH c) shapeCasts_S4096x256_S4096x128x2 := by
  have e := Pipeline.withArrays_arr spec0 arr_inj c (V0 m c) (fun w => (dats m hO hH 0 c).arrAt w (cfgM m hO).N) 8
  rw [final8] at e
  unfold Pipeline.afterTail
  show StableHlo.after hostOps1 _ (Proc.devRef .tc main_v13) = _
  after_results
  exact congrArg (fun x : Vec F S4096x256 .f32 => shapeCast S4096x128x2 x shapeCasts_S4096x256_S4096x128x2) e

/-- The second result after the region: `feature`. -/
theorem tail14 (hO : Ok m) (hH : Hyps m hO) (c : Dev nD) :
    Pipeline.afterTail pcfgs (fun _ => adm m hO) (dats m hO hH) 0 (V0 m) [hostOps1] c main_v14
      = m ((c : Thread nD τ).loc main_arg0) := by
  have e := Pipeline.withArrays_arr spec0 arr_inj c (V0 m c) (fun w => (dats m hO hH 0 c).arrAt w (cfgM m hO).N) 9
  rw [final9, V_v8] at e
  unfold Pipeline.afterTail
  show StableHlo.after hostOps1 _ (Proc.devRef .tc main_v14) = _
  after_results
  refine Eq.trans (congrArg (fun x : Vec F S16x8192x128 .f32 => shapeCast S16x64x128x128 x shapeCasts_S16x8192x128_S16x64x128x128) e) ?_
  exact shapeCast_shapeCast _ _ _

/-- The kernel's run: its two results, and its arguments as they were. -/
theorem run (hO : Ok m) (hH : Hyps m hO) :
    θ_run defs (onTc (τ := τ) (main (F := F))) ⟨m, fun _ => 0, ρ⟩ (fun r => ∀ c : Dev nD,
        r.2.mem ((c : Thread nD τ).loc main_v13) = shapeCast S4096x128x2 (out8 m hO hH c) shapeCasts_S4096x256_S4096x128x2
      ∧ r.2.mem ((c : Thread nD τ).loc main_v14) = m ((c : Thread nD τ).loc main_arg0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => ⟨
      ((h.1 c).2 main_v13 (by decide : main_v13 ∈ Pipeline.restRefs sig spec0)).trans (tail13 m hO hH c),
      ((h.1 c).2 main_v14 (by decide : main_v14 ∈ Pipeline.restRefs sig spec0)).trans (tail14 m hO hH c), h.2 c⟩)
    (θ_run_and (run_main m ρ hO hH) (unchanged m ρ hO hH))

end Cert.KernelRun
-- ==== Proof.TapScalar.lean ====
/- The scalar words of the sampling: constants, floors, range checks and clipped pixels of a coordinate, as real numbers. -/
module

public import proofs.«01_k».proof.Proof.Pre

@[expose] public section

noncomputable section

namespace Cert.Tap

open Idealize.ShloMosaic

/-- The word of sixty-four. -/
theorem w64 : (FloatOps.ofBits FTy.f32 1115684864#32 : Ideal .f32) = ((64 : ℝ) : EReal) := by
  show Ideal.ofBits .f32 1115684864#32 = _
  simp [Ideal.ofBits, Ideal.ieee]; norm_num; rw [← EReal.coe_mul]; norm_num
/-- The word of one. -/
theorem w1 : (FloatOps.ofBits FTy.f32 1065353216#32 : Ideal .f32) = ((1 : ℝ) : EReal) := by
  show Ideal.ofBits .f32 1065353216#32 = _
  simp [Ideal.ofBits, Ideal.ieee]; norm_num; rw [← EReal.coe_mul]; norm_num
/-- The word of one hundred and twenty-eight. -/
theorem w128 : (FloatOps.ofBits FTy.f32 1124073472#32 : Ideal .f32) = ((128 : ℝ) : EReal) := by
  show Ideal.ofBits .f32 1124073472#32 = _
  simp [Ideal.ofBits, Ideal.ieee]; norm_num; rw [← EReal.coe_mul]; norm_num
/-- The word of one hundred and twenty-seven. -/
theorem w127 : (FloatOps.ofBits FTy.f32 1123942400#32 : Ideal .f32) = ((127 : ℝ) : EReal) := by
  show Ideal.ofBits .f32 1123942400#32 = _
  simp [Ideal.ofBits, Ideal.ieee]; norm_num; rw [← EReal.coe_mul]; norm_num
/-- The word of two. -/
theorem w2 : (FloatOps.ofBits FTy.f32 1073741824#32 : Ideal .f32) = ((2 : ℝ) : EReal) := by
  show Ideal.ofBits .f32 1073741824#32 = _
  simp [Ideal.ofBits, Ideal.ieee]; norm_num; rw [← EReal.coe_mul]; norm_num
/-- The word of zero. -/
theorem w0 : (FloatOps.ofBits FTy.f32 0#32 : Ideal .f32) = ((0 : ℝ) : EReal) := by
  show Ideal.ofBits .f32 0#32 = _
  simp [Ideal.ofBits, Ideal.ieee]
/-- The word of one half. -/
theorem whalf : (FloatOps.ofBits FTy.f32 1056964608#32 : Ideal .f32) = ((1 / 2 : ℝ) : EReal) := by
  show Ideal.ofBits .f32 1056964608#32 = _
  simp [Ideal.ofBits, Ideal.ieee]; norm_num; rw [← EReal.coe_mul]; norm_num

/-- A coordinate, normalized and scaled back, is itself less one half. -/
theorem coord (x : ℝ) :
    (FloatOps.hostDivf (F := Ideal) (φ := .f32)
      (FloatOps.subf
        (FloatOps.mulf
          (FloatOps.addf
            (FloatOps.subf (FloatOps.hostDivf ((x : EReal) : Ideal .f32) (FloatOps.ofBits FTy.f32 1115684864#32))
              (FloatOps.ofBits FTy.f32 1065353216#32))
            (FloatOps.ofBits FTy.f32 1065353216#32))
          (FloatOps.ofBits FTy.f32 1124073472#32))
        (FloatOps.ofBits FTy.f32 1065353216#32))
      (FloatOps.ofBits FTy.f32 1073741824#32)) = ((x - 1 / 2 : ℝ) : EReal) := by
  rw [w64, w1, w128, w2]
  show Ideal.div (((Ideal.div (x : EReal) ((64 : ℝ) : EReal) - ((1 : ℝ) : EReal)) + ((1 : ℝ) : EReal)) * ((128 : ℝ) : EReal) - ((1 : ℝ) : EReal)) ((2 : ℝ) : EReal) = _
  rw [Ideal.div_coe (by norm_num), Ideal.div_coe (by norm_num)]
  norm_cast
  ring_nf

/-- The three values a tap's pixel can take. -/
def Pix (x : ℝ) : Prop := x = -1 ∨ x = 0 ∨ x = 1

/-- The pixel a tap reads: the clipped one. -/
def clip (x : ℝ) : BitVec 32 := if x = 1 then 1#32 else 0#32

/-- The clipped pixel's index word, after the wrap of negative indices. -/
theorem clip_word (x : ℝ) (hx : Pix x) :
    Scalar.select
      (IntOp.cmpi CmpIPredicate.slt
        (FloatOps.fptosi (F := Ideal) (φ := .f32) 32
          (FloatOps.minimumf (FloatOps.sitofp FTy.f32 127#32)
            (FloatOps.maximumf (FloatOps.sitofp FTy.f32 0#32) ((x : EReal) : Ideal .f32))))
        0#32)
      (IntOp.addi
        (FloatOps.fptosi (F := Ideal) (φ := .f32) 32
          (FloatOps.minimumf (FloatOps.sitofp FTy.f32 127#32)
            (FloatOps.maximumf (FloatOps.sitofp FTy.f32 0#32) ((x : EReal) : Ideal .f32))))
        128#32)
      (FloatOps.fptosi (F := Ideal) (φ := .f32) 32
        (FloatOps.minimumf (FloatOps.sitofp FTy.f32 127#32)
          (FloatOps.maximumf (FloatOps.sitofp FTy.f32 0#32) ((x : EReal) : Ideal .f32)))) = clip x := by
  have h : (FloatOps.fptosi (F := Ideal) (φ := .f32) 32
        (FloatOps.minimumf (FloatOps.sitofp FTy.f32 127#32)
          (FloatOps.maximumf (FloatOps.sitofp FTy.f32 0#32) ((x : EReal) : Ideal .f32)))) = clip x := by
    show Ideal.fptosi 32 (min ((((127#32).toInt : ℝ)) : EReal) (max ((((0#32).toInt : ℝ)) : EReal) (x : EReal))) = _
    have e1 : ((127#32).toInt : ℝ) = 127 := by norm_num [show (127#32).toInt = 127 from rfl]
    have e0 : ((0#32).toInt : ℝ) = 0 := by norm_num [show (0#32).toInt = 0 from rfl]
    rw [e1, e0]
    have : (min ((127 : ℝ) : EReal) (max ((0 : ℝ) : EReal) (x : EReal))) = ((min 127 (max 0 x) : ℝ) : EReal) := by
      rw [Monotone.map_min EReal.coe_strictMono.monotone, Monotone.map_max EReal.coe_strictMono.monotone]
    rw [this]
    show BitVec.ofInt 32 (Ideal.toIntClamped _ _ (((min 127 (max 0 x)) : ℝ) : EReal)) = _
    rw [Ideal.toIntClamped_coe]
    rcases hx with rfl | rfl | rfl
    · rw [show min 127 (max 0 (-1 : ℝ)) = 0 by norm_num]; norm_num [clip]
    · rw [show min 127 (max 0 (0 : ℝ)) = 0 by norm_num]; norm_num [clip]
    · rw [show min 127 (max 0 (1 : ℝ)) = 1 by norm_num]; norm_num [clip]
  rw [h]
  rcases hx with rfl | rfl | rfl
  · norm_num [clip]; decide
  · norm_num [clip]; decide
  · norm_num [clip]; decide

/-- The range checks of one coordinate hold exactly where the pixel is not the one before the first. -/
theorem in_range (x : ℝ) (hx : Pix x) :
    FloatOps.cmpf (F := Ideal) (φ := .f32) CmpFPredicate.oge ((x : EReal) : Ideal .f32) (FloatOps.ofBits FTy.f32 0#32) = (if x = -1 then 0#1 else 1#1)
    ∧ FloatOps.cmpf (F := Ideal) (φ := .f32) CmpFPredicate.ole ((x : EReal) : Ideal .f32) (FloatOps.ofBits FTy.f32 1123942400#32) = 1#1 := by
  rw [w0, w127]
  constructor
  · show BitVec.ofBool (decide (((0 : ℝ) : EReal) ≤ (x : EReal))) = _
    simp only [EReal.coe_le_coe_iff]
    rcases hx with rfl | rfl | rfl <;> norm_num <;> rfl
  · show BitVec.ofBool (decide ((x : EReal) ≤ ((127 : ℝ) : EReal))) = _
    simp only [EReal.coe_le_coe_iff]
    rcases hx with rfl | rfl | rfl <;> norm_num <;> rfl

/-- A tap's validity: both its pixels lie in the image. -/
def ok (x y : ℝ) : ℝ := if x = -1 ∨ y = -1 then 0 else 1

/-- The printed validity is `ok`. -/
theorem valid_word (x y : ℝ) (hx : Pix x) (hy : Pix y) :
    FloatOps.uitofp (F := Ideal) FTy.f32
      (IntOp.andi
        (IntOp.andi
          (IntOp.andi (FloatOps.cmpf (F := Ideal) (φ := .f32) CmpFPredicate.oge ((x : EReal) : Ideal .f32) (FloatOps.ofBits FTy.f32 0#32))
            (FloatOps.cmpf (F := Ideal) (φ := .f32) CmpFPredicate.ole ((x : EReal) : Ideal .f32) (FloatOps.ofBits FTy.f32 1123942400#32)))
          (FloatOps.cmpf (F := Ideal) (φ := .f32) CmpFPredicate.oge ((y : EReal) : Ideal .f32) (FloatOps.ofBits FTy.f32 0#32)))
        (FloatOps.cmpf (F := Ideal) (φ := .f32) CmpFPredicate.ole ((y : EReal) : Ideal .f32) (FloatOps.ofBits FTy.f32 1123942400#32))) = ((ok x y : ℝ) : EReal) := by
  rw [(in_range x hx).1, (in_range x hx).2, (in_range y hy).1, (in_range y hy).2]
  have hu : ∀ b : BitVec 1, (FloatOps.uitofp FTy.f32 b : Ideal .f32) = ((b.toNat : ℝ) : EReal) := fun _ => rfl
  rw [hu]
  unfold ok
  by_cases h1 : x = -1 <;> by_cases h2 : y = -1 <;> simp [h1, h2, IntOp.andi]

/-- A nonnegative image index passes the wrap of negative indices. -/
theorem wrap_word (b : BitVec 32) (hb : b.toNat < 16) :
    Scalar.select (IntOp.cmpi CmpIPredicate.slt b 0#32) (IntOp.addi b 16#32) b = b := by
  have : IntOp.cmpi CmpIPredicate.slt b 0#32 = 0#1 := by
    have hb' : b < 16#32 := hb
    revert hb'
    have := hb
    show b < 16#32 → _
    intro h
    simp only [IntOp.cmpi]
    have : ¬ b.slt 0#32 := by
      rw [BitVec.slt_iff_toInt_lt, BitVec.toInt_eq_toNat_of_lt (by omega)]
      simp
    simp [this]
  rw [this]; rfl

end Cert.Tap
-- ==== Proof.Sample.lean ====
/- The bilinear sample at a point of the unit square's neighbourhood, as real arithmetic: weights, samples and the sum over points and channels. -/
module

public import proofs.«01_k».proof.Proof.TapScalar

@[expose] public section

noncomputable section

namespace Cert.Sample

open Cert.Tap

/-- The weight of the pixel of number zero at a coordinate. -/
def q0 (r : ℝ) : ℝ := 1 - |r - 1 / 2|
/-- The weight of the pixel of number one at a coordinate. -/
def q1 (r : ℝ) : ℝ := max (r - 1 / 2) 0

/-- The sample of an image's channel at a point: the four corner pixels by their weights. -/
def samp (g : Fin 128 → Fin 128 → ℝ) (a d : ℝ) : ℝ :=
  q0 d * q0 a * g 0 0 + q0 d * q1 a * g 0 1 + q1 d * q0 a * g 1 0 + q1 d * q1 a * g 1 1

/-- The pixel read, as an index of an image's side. -/
def pix (x : ℝ) : Fin 128 := if x = 1 then 1 else 0

/-- The floor of a coordinate less one half. -/
def base (a : ℝ) : ℝ := if a < 1 / 2 then -1 else 0

/-- The floor is the base. -/
theorem floor_base (a : ℝ) (h0 : -(1 / 2) ≤ a) (h1 : a < 3 / 2) : ((⌊a - 1 / 2⌋ : ℤ) : ℝ) = base a := by
  unfold base
  split
  · next h => rw [show ⌊a - 1 / 2⌋ = -1 from Int.floor_eq_iff.mpr ⟨by push_cast; linarith, by push_cast; linarith⟩]; norm_num
  · next h => rw [show ⌊a - 1 / 2⌋ = 0 from Int.floor_eq_iff.mpr ⟨by push_cast; linarith, by push_cast; linarith⟩]; norm_num

/-- A base is a pixel number. -/
theorem pix_base (a : ℝ) : Pix (base a) := by
  unfold Pix base; split <;> simp
/-- A base's successor is a pixel number. -/
theorem pix_succ (a : ℝ) : Pix (base a + 1) := by
  unfold Pix base; split <;> norm_num

/-- The four taps at the base and its successors are the sample. -/
theorem taps (g : Fin 128 → Fin 128 → ℝ) (a d : ℝ) (ha0 : -(1 / 2) ≤ a) (hd0 : -(1 / 2) ≤ d) :
    g (pix (base d)) (pix (base a)) * ((1 - (a - 1 / 2 - base a)) * (1 - (d - 1 / 2 - base d)) * ok (base a) (base d))
      + g (pix (base d)) (pix (base a + 1)) * ((a - 1 / 2 - base a) * (1 - (d - 1 / 2 - base d)) * ok (base a + 1) (base d))
      + g (pix (base d + 1)) (pix (base a)) * ((1 - (a - 1 / 2 - base a)) * (d - 1 / 2 - base d) * ok (base a) (base d + 1))
      + g (pix (base d + 1)) (pix (base a + 1)) * ((a - 1 / 2 - base a) * (d - 1 / 2 - base d) * ok (base a + 1) (base d + 1))
      = samp g a d := by
  unfold samp q0 q1
  by_cases h : a < 1 / 2 <;> by_cases h' : d < 1 / 2
  · have e : base a = -1 := if_pos h
    have e' : base d = -1 := if_pos h'
    rw [abs_of_neg (by linarith : a - 1 / 2 < 0), abs_of_neg (by linarith : d - 1 / 2 < 0), max_eq_right (by linarith : a - 1 / 2 ≤ 0),
      max_eq_right (by linarith : d - 1 / 2 ≤ 0), e, e']
    norm_num [ok, pix]; ring
  · have e : base a = -1 := if_pos h
    have e' : base d = 0 := if_neg h'
    rw [abs_of_neg (by linarith : a - 1 / 2 < 0), abs_of_nonneg (by linarith : 0 ≤ d - 1 / 2), max_eq_right (by linarith : a - 1 / 2 ≤ 0),
      max_eq_left (by linarith : 0 ≤ d - 1 / 2), e, e']
    norm_num [ok, pix]; ring
  · have e : base a = 0 := if_neg h
    have e' : base d = -1 := if_pos h'
    rw [abs_of_nonneg (by linarith : 0 ≤ a - 1 / 2), abs_of_neg (by linarith : d - 1 / 2 < 0), max_eq_left (by linarith : 0 ≤ a - 1 / 2),
      max_eq_right (by linarith : d - 1 / 2 ≤ 0), e, e']
    norm_num [ok, pix]; ring
  · have e : base a = 0 := if_neg h
    have e' : base d = 0 := if_neg h'
    rw [abs_of_nonneg (by linarith : 0 ≤ a - 1 / 2), abs_of_nonneg (by linarith : 0 ≤ d - 1 / 2), max_eq_left (by linarith : 0 ≤ a - 1 / 2),
      max_eq_left (by linarith : 0 ≤ d - 1 / 2), e, e']
    norm_num [ok, pix]; ring

/-- A sum of real numbers, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The hidden value: samples by first weights, over points and channels. -/
def hid (g : Fin 64 → Fin 128 → Fin 128 → ℝ) (px py : Fin 129 → ℝ) (w : Fin 64 → Fin 129 → ℝ) : ℝ :=
  ∑ k : Fin 129, ∑ c : Fin 64, samp (g c) (px k) (py k) * w c k

/-- A sum over the rows' entries laid out in a line is a sum over channels and points. -/
theorem sum_line (f : Fin 8256 → ℝ) :
    (∑ q : Fin 8256, f q) = ∑ k : Fin 129, ∑ c : Fin 64, f ⟨c.val * 129 + k.val, by omega⟩ := by
  rw [Finset.sum_comm, ← Fintype.sum_prod_type' (fun (c : Fin 64) (k : Fin 129) => f ⟨c.val * 129 + k.val, by omega⟩)]
  refine (Fintype.sum_equiv (finProdFinEquiv (m := 64) (n := 129)) _ _ fun x => ?_).symm
  refine congrArg f (Fin.ext ?_)
  show x.1.val * 129 + x.2.val = x.2.val + 129 * x.1.val
  omega

end Cert.Sample
-- ==== Proof.KernelWords.lean ====
/- The kernel's words at an entry: the image loop's trips and offsets, the selections of coordinates, the weights and the plain products. -/
module

public import proofs.«01_k».proof.Proof.KernelTrip
public import proofs.«01_k».proof.Proof.Sample
public import Idealize.ShloMosaic.Lib.MatmulPlain

@[expose] public section

noncomputable section

namespace Cert.KernelWords

open Cert.KernelIdeal Cert.KernelIdeal.Gen Cert.Tap Cert.Sample
open Idealize.ShloMosaic Idealize.ShloMosaic.TcCoe

/-! ## The image loop's trips and offsets -/

/-- The image loop's trips, for image numbers below 16. -/
theorem trips_fin : ∀ lo hi : Fin 16, (k0_t1_loop (BitVec.ofNat 32 lo.val) (BitVec.ofNat 32 hi.val)).trips = hi.val + 1 - lo.val := by
  decide +kernel

/-- The image loop's trips: from the first image to the last. -/
theorem trips_eq (lo hi : BitVec 32) (h1 : lo.toNat < 16) (h2 : hi.toNat < 16) : (k0_t1_loop lo hi).trips = hi.toNat + 1 - lo.toNat := by
  have e := trips_fin ⟨lo.toNat, h1⟩ ⟨hi.toNat, h2⟩
  simpa only [BitVec.ofNat_toNat, BitVec.setWidth_eq] using e

/-- The image of a trip, for image numbers below 16. -/
theorem iv_fin : ∀ lo n : Fin 16, Scf.iv (BitVec.ofNat 32 lo.val) 1#32 n.val = BitVec.ofNat 32 (lo.val + n.val) := by
  decide +kernel

/-- The image of a trip. -/
theorem iv_eq (lo : BitVec 32) (h1 : lo.toNat < 16) (n : ℕ) (b : Fin 16) (hb : b.val = lo.toNat + n) : Scf.iv lo 1#32 n = BitVec.ofNat 32 b.val := by
  have e := iv_fin ⟨lo.toNat, h1⟩ ⟨n, by omega⟩
  rw [hb]
  simpa only [BitVec.ofNat_toNat, BitVec.setWidth_eq] using e

/-- The rows of an image in the centre products. -/
theorem row_words : ∀ b : Fin 16, (4#32 * BitVec.ofNat 32 b.val).toNat = 4 * b.val ∧ (4#32 * BitVec.ofNat 32 b.val + 1#32).toNat = 4 * b.val + 1
    ∧ (4#32 * BitVec.ofNat 32 b.val + 2#32).toNat = 4 * b.val + 2 ∧ (4#32 * BitVec.ofNat 32 b.val + 3#32).toNat = 4 * b.val + 3
    ∧ (BitVec.ofNat 32 b.val).toNat = b.val := by
  decide +kernel

section Offsets
variable (lo hi : BitVec 32) (k : Fin (k0_t1_loop lo hi).trips) (b : Fin 16) (hb : Scf.iv lo 1#32 k = BitVec.ofNat 32 b.val)
include hb

/-- The first row's offsets. -/
theorem off2 : k0_off2 lo hi k = ![4 * b.val, 0] := by
  show ![(4#32 * Scf.iv lo 1#32 k).toNat, 0] = _
  rw [hb, (row_words b).1]
/-- The second row's offsets. -/
theorem off3_1 : k0_off3 lo hi k 1#32 = ![4 * b.val + 1, 0] := by
  show ![(4#32 * Scf.iv lo 1#32 k + 1#32).toNat, 0] = _
  rw [hb, (row_words b).2.1]
/-- The third row's offsets. -/
theorem off3_2 : k0_off3 lo hi k 2#32 = ![4 * b.val + 2, 0] := by
  show ![(4#32 * Scf.iv lo 1#32 k + 2#32).toNat, 0] = _
  rw [hb, (row_words b).2.2.1]
/-- The fourth row's offsets. -/
theorem off3_3 : k0_off3 lo hi k 3#32 = ![4 * b.val + 3, 0] := by
  show ![(4#32 * Scf.iv lo 1#32 k + 3#32).toNat, 0] = _
  rw [hb, (row_words b).2.2.2.1]
/-- The first product's offsets. -/
theorem off4 : k0_off4 lo hi k = ![b.val, 0, 0, 0] := by
  show ![(Scf.iv lo 1#32 k).toNat, 0, 0, 0] = _
  rw [hb, (row_words b).2.2.2.2]
/-- The second product's offsets. -/
theorem off5 : k0_off5 lo hi k = ![b.val, 1, 0, 0] := by
  show ![(Scf.iv lo 1#32 k).toNat, 1, 0, 0] = _
  rw [hb, (row_words b).2.2.2.2]
/-- The third product's offsets. -/
theorem off6 : k0_off6 lo hi k = ![b.val, 2, 0, 0] := by
  show ![(Scf.iv lo 1#32 k).toNat, 2, 0, 0] = _
  rw [hb, (row_words b).2.2.2.2]
/-- The fourth product's offsets. -/
theorem off7 : k0_off7 lo hi k = ![b.val, 3, 0, 0] := by
  show ![(Scf.iv lo 1#32 k).toNat, 3, 0, 0] = _
  rw [hb, (row_words b).2.2.2.2]
end Offsets

/-! ## Plain products -/

/-- A tile's product by a kept product. -/
theorem mm_hidden (a : FVec Ideal S256x128 .f32) (b : FVec Ideal S128x512 .f32) (p : Fin 256) (o : Fin 512) :
    matmul dot_S256x128_S128x512_S256x512_1_0_0_1_n_n none a b (constant S256x512 .f32 0x00000000#32) (ValueIdx.ix2 p o)
      = ∑ k : Fin 128, a (ValueIdx.ix2 p k) * b (ValueIdx.ix2 k o) := by
  refine (Ideal.matmul_plain_apply (M := 256) (K := 128) (N := 512) none a b (constant S256x512 .f32 0x00000000#32) p o).trans ?_
  show Ideal.ofBits .f32 0x00000000#32 + _ = _
  rw [show Ideal.ofBits .f32 0x00000000#32 = 0 from w0, zero_add]

/-- A tile's points by a selection of coordinates. -/
theorem mm_select (a : FVec Ideal S256x256 .f32) (b : FVec Ideal S256x128 .f32) (p : Fin 256) (o : Fin 128) :
    matmul dot_S256x256_S256x128_S256x128_1_0_0_1_n_n none a b (constant S256x128 .f32 0x00000000#32) (ValueIdx.ix2 p o)
      = ∑ k : Fin 256, a (ValueIdx.ix2 p k) * b (ValueIdx.ix2 k o) := by
  refine (Ideal.matmul_plain_apply (M := 256) (K := 256) (N := 128) none a b (constant S256x128 .f32 0x00000000#32) p o).trans ?_
  show Ideal.ofBits .f32 0x00000000#32 + _ = _
  rw [show Ideal.ofBits .f32 0x00000000#32 = 0 from w0, zero_add]

/-- A tile's hidden values by the second weights. -/
theorem mm_out (a : FVec Ideal S256x512 .f32) (b : FVec Ideal S512x256 .f32) (p : Fin 256) (o : Fin 256) :
    matmul dot_S256x512_S512x256_S256x256_1_0_0_1_n_n none a b (constant S256x256 .f32 0x00000000#32) (ValueIdx.ix2 p o)
      = ∑ k : Fin 512, a (ValueIdx.ix2 p k) * b (ValueIdx.ix2 k o) := by
  refine (Ideal.matmul_plain_apply (M := 256) (K := 512) (N := 256) none a b (constant S256x256 .f32 0x00000000#32) p o).trans ?_
  show Ideal.ofBits .f32 0x00000000#32 + _ = _
  rw [show Ideal.ofBits .f32 0x00000000#32 = 0 from w0, zero_add]

/-- The corner pixels by the first weights. -/
theorem mm_corner (a : FVec Ideal S64x64 .f32) (b : FVec Ideal S64x66048 .f32) (p : Fin 64) (o : Fin 66048) :
    matmul dot_S64x64_S64x66048_S64x66048_1_0_0_1_n_n none a b (constant S64x66048 .f32 0x00000000#32) (ValueIdx.ix2 p o)
      = ∑ k : Fin 64, a (ValueIdx.ix2 p k) * b (ValueIdx.ix2 k o) := by
  refine (Ideal.matmul_plain_apply (M := 64) (K := 64) (N := 66048) none a b (constant S64x66048 .f32 0x00000000#32) p o).trans ?_
  show Ideal.ofBits .f32 0x00000000#32 + _ = _
  rw [show Ideal.ofBits .f32 0x00000000#32 = 0 from w0, zero_add]

/-! ## Coordinates and weights -/

/-- A selection's word: one at an equality of words, zero elsewhere. -/
theorem flag_word (x y : BitVec 32) :
    (FloatOps.sitofp FTy.f32 (BitVec.setWidth 32 (IntOp.cmpi CmpIPredicate.eq x y)) : Ideal .f32) = (((if x = y then 1 else 0 : ℝ)) : EReal) := by
  by_cases h : x = y
  · subst h
    rw [show IntOp.cmpi CmpIPredicate.eq x x = 1#1 by simp [IntOp.cmpi], if_pos rfl]
    show (((BitVec.setWidth 32 1#1).toInt : ℝ) : EReal) = _
    rw [show (BitVec.setWidth 32 1#1).toInt = 1 by decide]; norm_num
  · have hb : (x == y) = false := by simpa using h
    rw [show IntOp.cmpi CmpIPredicate.eq x y = 0#1 by show BitVec.ofBool (x == y) = 0#1; rw [hb]; rfl, if_neg h]
    show (((BitVec.setWidth 32 0#1).toInt : ℝ) : EReal) = _
    rw [show (BitVec.setWidth 32 0#1).toInt = 0 by decide]; norm_num

/-- The weight of the pixel of number zero. -/
theorem tent_word (r : ℝ) :
    (FloatOps.subf (FloatOps.ofBits FTy.f32 1065353216#32) (FloatOps.absf (((r - 1 / 2 : ℝ) : EReal) : Ideal .f32)) : Ideal .f32) = (q0 r : EReal) := by
  rw [Tap.w1]
  show ((1 : ℝ) : EReal) - max (((r - 1 / 2 : ℝ) : EReal)) (-((r - 1 / 2 : ℝ) : EReal)) = _
  rw [← EReal.coe_neg, ← Monotone.map_max EReal.coe_strictMono.monotone, ← EReal.coe_sub]
  rfl

/-- The weight of the pixel of number one. -/
theorem ramp_word (r : ℝ) :
    (FloatOps.maximumf (((r - 1 / 2 : ℝ) : EReal) : Ideal .f32) (FloatOps.ofBits FTy.f32 0#32) : Ideal .f32) = (q1 r : EReal) := by
  rw [Tap.w0]
  show max (((r - 1 / 2 : ℝ) : EReal)) ((0 : ℝ) : EReal) = _
  rw [← Monotone.map_max EReal.coe_strictMono.monotone]
  rfl

section Tile
variable (x6 : FVec Ideal S256x256 .f32) (p : Fin 256) (X : Fin 256 → ℝ) (hX : ∀ q, x6 (ValueIdx.ix2 p q) = (X q : EReal))
include hX

/-- The first coordinates of a tile's points, less one half. -/
theorem pay19_at (k : Fin 128) : k0_pay19 (F := Ideal) x6 (ValueIdx.ix2 p k) = ((X ⟨2 * k.val, by omega⟩ - 1 / 2 : ℝ) : EReal) := by
  unfold k0_pay19 k0_pay18
  dsimp only
  rw [shapeCast_self]
  refine (congrArg₂ (FloatOps.subf (F := Ideal) (φ := .f32)) (mm_select x6 _ p k) whalf).trans ?_
  rw [Finset.sum_eq_single (⟨2 * k.val, by omega⟩ : Fin 256)]
  · rw [hX]
    refine (congrArg (fun z : EReal => (X ⟨2 * k.val, by omega⟩ : EReal) * z - ((1 / 2 : ℝ) : EReal)) (flag_word _ _)).trans ?_
    rw [iota_single_apply, if_pos]
    · norm_cast; ring_nf
    · show BitVec.ofNat 32 (2 * k.val) = 2#32 * iota .tc S256x128 32 [1] _ _
      rw [iota_single_apply]
      exact BitVec.ofNat_mul ..
  · intro q _ hq
    rw [hX]
    refine (congrArg (fun z : EReal => (X q : EReal) * z) (flag_word _ _)).trans ?_
    rw [iota_single_apply, if_neg]
    · simp
    · show ¬ BitVec.ofNat 32 q.val = 2#32 * iota .tc S256x128 32 [1] _ _
      rw [iota_single_apply]
      intro h
      have h' := congrArg BitVec.toNat h
      simp only [BitVec.toNat_ofNat, BitVec.toNat_mul] at h'
      refine hq (Fin.ext ?_)
      show q.val = 2 * k.val
      have : (ValueIdx.ix2 q k (1 : Fin 2)).val = k.val := rfl
      have := q.isLt; have := k.isLt
      omega
  · intro h; exact absurd (Finset.mem_univ _) h

/-- The second coordinates of a tile's points, less one half. -/
theorem pay20_at (k : Fin 128) : k0_pay20 (F := Ideal) x6 (ValueIdx.ix2 p k) = ((X ⟨2 * k.val + 1, by omega⟩ - 1 / 2 : ℝ) : EReal) := by
  unfold k0_pay20 k0_pay18
  dsimp only
  rw [shapeCast_self]
  refine (congrArg₂ (FloatOps.subf (F := Ideal) (φ := .f32)) (mm_select x6 _ p k) whalf).trans ?_
  rw [Finset.sum_eq_single (⟨2 * k.val + 1, by omega⟩ : Fin 256)]
  · rw [hX]
    refine (congrArg (fun z : EReal => (X ⟨2 * k.val + 1, by omega⟩ : EReal) * z - ((1 / 2 : ℝ) : EReal)) (flag_word _ _)).trans ?_
    rw [iota_single_apply, if_pos]
    · norm_cast; ring_nf
    · show BitVec.ofNat 32 (2 * k.val + 1) = 2#32 * iota .tc S256x128 32 [1] _ _ + 1#32
      rw [iota_single_apply, BitVec.ofNat_add, BitVec.ofNat_mul]
  · intro q _ hq
    rw [hX]
    refine (congrArg (fun z : EReal => (X q : EReal) * z) (flag_word _ _)).trans ?_
    rw [iota_single_apply, if_neg]
    · simp
    · show ¬ BitVec.ofNat 32 q.val = 2#32 * iota .tc S256x128 32 [1] _ _ + 1#32
      rw [iota_single_apply]
      intro h
      have h' := congrArg BitVec.toNat h
      simp only [BitVec.toNat_ofNat, BitVec.toNat_mul, BitVec.toNat_add] at h'
      refine hq (Fin.ext ?_)
      show q.val = 2 * k.val + 1
      have : (ValueIdx.ix2 q k (1 : Fin 2)).val = k.val := rfl
      have := q.isLt; have := k.isLt
      omega
  · intro h; exact absurd (Finset.mem_univ _) h

/-- The first coordinates' weights of pixel zero. -/
theorem pay21_at (k : Fin 128) : k0_pay21 (F := Ideal) x6 (ValueIdx.ix2 p k) = (q0 (X ⟨2 * k.val, by omega⟩) : EReal) :=
  (congrArg (fun z : Ideal .f32 => (FloatOps.subf (FloatOps.ofBits FTy.f32 1065353216#32) (FloatOps.absf z) : Ideal .f32)) (pay19_at x6 p X hX k)).trans (tent_word _)
/-- The first coordinates' weights of pixel one. -/
theorem pay22_at (k : Fin 128) : k0_pay22 (F := Ideal) x6 (ValueIdx.ix2 p k) = (q1 (X ⟨2 * k.val, by omega⟩) : EReal) :=
  (congrArg (fun z : Ideal .f32 => (FloatOps.maximumf z (FloatOps.ofBits FTy.f32 0#32) : Ideal .f32)) (pay19_at x6 p X hX k)).trans (ramp_word _)
/-- The second coordinates' weights of pixel zero. -/
theorem pay23_at (k : Fin 128) : k0_pay23 (F := Ideal) x6 (ValueIdx.ix2 p k) = (q0 (X ⟨2 * k.val + 1, by omega⟩) : EReal) :=
  (congrArg (fun z : Ideal .f32 => (FloatOps.subf (FloatOps.ofBits FTy.f32 1065353216#32) (FloatOps.absf z) : Ideal .f32)) (pay20_at x6 p X hX k)).trans (tent_word _)
/-- The second coordinates' weights of pixel one. -/
theorem pay24_at (k : Fin 128) : k0_pay24 (F := Ideal) (k0_pay20 x6) (FloatOps.ofBits FTy.f32 0#32) (ValueIdx.ix2 p k) = (q1 (X ⟨2 * k.val + 1, by omega⟩) : EReal) :=
  (congrArg (fun z : Ideal .f32 => (FloatOps.maximumf z (FloatOps.ofBits FTy.f32 0#32) : Ideal .f32)) (pay20_at x6 p X hX k)).trans (ramp_word _)
end Tile

section Centre
variable (x2 : FVec Ideal S256x2 .f32) (p : Fin 256) (C : Fin 2 → ℝ) (hC : ∀ d, x2 (ValueIdx.ix2 p d) = (C d : EReal))
include hC

/-- The centre's first coordinate, less one half. -/
theorem pay25_at : k0_pay25 (F := Ideal) x2 (ValueIdx.ix2 p (0 : Fin 1)) = ((C 0 - 1 / 2 : ℝ) : EReal) := by
  unfold k0_pay25
  refine (congrArg₂ (FloatOps.subf (F := Ideal) (φ := .f32)) (extractStridedSlice_apply ![0, 0] x2 _ (ValueIdx.ix2 p (0 : Fin 1)) (ValueIdx.ix2 p (0 : Fin 2))
    (fun a => by match a with | ⟨0, _⟩ => exact (Nat.zero_add _).symm | ⟨1, _⟩ => rfl)) whalf).trans ?_
  rw [hC]
  exact (EReal.coe_sub _ _).symm
/-- The centre's second coordinate, less one half. -/
theorem pay26_at : k0_pay26 (F := Ideal) x2 (ValueIdx.ix2 p (0 : Fin 1)) = ((C 1 - 1 / 2 : ℝ) : EReal) := by
  unfold k0_pay26
  refine (congrArg₂ (FloatOps.subf (F := Ideal) (φ := .f32)) (extractStridedSlice_apply ![0, 1] x2 _ (ValueIdx.ix2 p (0 : Fin 1)) (ValueIdx.ix2 p (1 : Fin 2))
    (fun a => by match a with | ⟨0, _⟩ => exact (Nat.zero_add _).symm | ⟨1, _⟩ => rfl)) whalf).trans ?_
  rw [hC]
  exact (EReal.coe_sub _ _).symm

/-- The centre's weights. -/
theorem pay27_at : k0_pay27 (F := Ideal) x2 (ValueIdx.ix2 p (0 : Fin 1)) = (q0 (C 0) : EReal) :=
  (congrArg (fun z : Ideal .f32 => (FloatOps.subf (FloatOps.ofBits FTy.f32 1065353216#32) (FloatOps.absf z) : Ideal .f32)) (pay25_at x2 p C hC)).trans (tent_word _)
/-- The centre's weights. -/
theorem pay28_at : k0_pay28 (F := Ideal) x2 (ValueIdx.ix2 p (0 : Fin 1)) = (q1 (C 0) : EReal) :=
  (congrArg (fun z : Ideal .f32 => (FloatOps.maximumf z (FloatOps.ofBits FTy.f32 0#32) : Ideal .f32)) (pay25_at x2 p C hC)).trans (ramp_word _)
/-- The centre's weights. -/
theorem pay29_at : k0_pay29 (F := Ideal) x2 (ValueIdx.ix2 p (0 : Fin 1)) = (q0 (C 1) : EReal) :=
  (congrArg (fun z : Ideal .f32 => (FloatOps.subf (FloatOps.ofBits FTy.f32 1065353216#32) (FloatOps.absf z) : Ideal .f32)) (pay26_at x2 p C hC)).trans (tent_word _)
/-- The centre's weights. -/
theorem pay30_at : k0_pay30 (F := Ideal) x2 (ValueIdx.ix2 p (0 : Fin 1)) = (q1 (C 1) : EReal) :=
  (congrArg (fun z : Ideal .f32 => (FloatOps.maximumf z (FloatOps.ofBits FTy.f32 0#32) : Ideal .f32)) (pay26_at x2 p C hC)).trans (ramp_word _)
end Centre

end Cert.KernelWords
-- ==== Proof.KernelSum.lean ====
/- One trip of the image loop at an entry, as real arithmetic, and the accumulator after the loop: only the point's own image adds to it. -/
module

public import proofs.«01_k».proof.Proof.KernelWords

@[expose] public section

noncomputable section

namespace Cert.KernelSum

open Cert.KernelIdeal Cert.KernelIdeal.Gen Cert.Tap Cert.Sample Cert.KernelWords Cert.KernelTrip
open Idealize.ShloMosaic Idealize.ShloMosaic.TcCoe

/-! ## Layout steps -/

/-- A column spread over a tile's hidden columns. -/
theorem col512 (v : FVec Ideal S256x1 .f32) (p : Fin 256) (o : Fin 512) :
    broadcastTo S256x512 v broadcasts_S256x1_S256x512 (ValueIdx.ix2 p o) = v (ValueIdx.ix2 p (0 : Fin 1)) :=
  broadcastTo_apply v _ _ _ fun a => by match a with | ⟨0, _⟩ => rfl | ⟨1, _⟩ => rfl
/-- A column spread over a tile's points. -/
theorem col128 (v : FVec Ideal S256x1 .f32) (p : Fin 256) (k : Fin 128) :
    broadcastTo S256x128 v broadcasts_S256x1_S256x128 (ValueIdx.ix2 p k) = v (ValueIdx.ix2 p (0 : Fin 1)) :=
  broadcastTo_apply v _ _ _ fun a => by match a with | ⟨0, _⟩ => rfl | ⟨1, _⟩ => rfl
/-- A row spread over a tile's rows. -/
theorem row512 (v : FVec Ideal S1x512 .f32) (p : Fin 256) (o : Fin 512) :
    broadcastTo S256x512 (shapeCast S1x512 (shapeCast S512 v shapeCasts_S1x512_S512) shapeCasts_S512_S1x512) broadcasts_S1x512_S256x512 (ValueIdx.ix2 p o)
      = v (ValueIdx.ix2 (0 : Fin 1) o) := by
  refine (broadcastTo_apply _ _ _ (ValueIdx.ix2 (0 : Fin 1) o) fun a => by match a with | ⟨0, _⟩ => rfl | ⟨1, _⟩ => rfl).trans ?_
  refine (shapeCast_apply _ _ _ (ValueIdx.ix1 o) ?_).trans (shapeCast_apply v _ _ (ValueIdx.ix2 (0 : Fin 1) o) ?_)
  · rw [Shape.rowMajor_val_one, Shape.rowMajor_val_two]
    show o.val = 0 * 512 + o.val
    omega
  · rw [Shape.rowMajor_val_one, Shape.rowMajor_val_two]
    show 0 * 512 + o.val = o.val
    omega
/-- A kept product's block without its unit axes. -/
theorem blk (v : FVec Ideal S1x1x128x512 .f32) (k : Fin 128) (o : Fin 512) :
    shapeCast S128x512 v shapeCasts_S1x1x128x512_S128x512 (ValueIdx.ix2 k o) = v (ValueIdx.ix4 (0 : Fin 1) (0 : Fin 1) k o) :=
  shapeCast_apply v _ _ _ (by
    rw [Shape.rowMajor_val_four, Shape.rowMajor_val_two]
    show ((0 * 1 + 0) * 128 + k.val) * 512 + o.val = k.val * 512 + o.val
    omega)

/-- A row read out of the centre products. -/
theorem ld_row (vc : FVec Ideal S64x512 .f32) (off : Fin 2 → ℕ) (inb) (r : Fin 64) (hr : off = ![r.val, 0]) (o : Fin 512) :
    View.ld (Val := Elt Ideal) (e' := .f32) vc (Rect.unit (s := S64x512) off S1x512.size inb) (ValueIdx.ix2 (0 : Fin 1) o) = vc (ValueIdx.ix2 r o) := by
  subst hr
  exact congrArg vc (funext fun a => Fin.ext (by match a with | ⟨0, _⟩ => rfl | ⟨1, _⟩ => show 0 + 1 * o.val = o.val; omega))
/-- A block read out of the point products. -/
theorem ld_blk (vm : FVec Ideal S16x4x128x512 .f32) (off : Fin 4 → ℕ) (inb) (b : Fin 16) (j : Fin 4) (hr : off = ![b.val, j.val, 0, 0]) (k : Fin 128) (o : Fin 512) :
    View.ld (Val := Elt Ideal) (e' := .f32) vm (Rect.unit (s := S16x4x128x512) off S1x1x128x512.size inb) (ValueIdx.ix4 (0 : Fin 1) (0 : Fin 1) k o)
      = vm (ValueIdx.ix4 b j k o) := by
  subst hr
  exact congrArg vm (funext fun a => Fin.ext (by
    match a with
    | ⟨0, _⟩ => rfl
    | ⟨1, _⟩ => rfl
    | ⟨2, _⟩ => show 0 + 1 * k.val = k.val; omega
    | ⟨3, _⟩ => show 0 + 1 * o.val = o.val; omega))

/-! ## A trip's pieces -/

/-- The flag of an image at a row. -/
theorem flag_at (v55 : IVec S256x1 32) (lo hi : BitVec 32) (k : Fin (k0_t1_loop lo hi).trips) (b : Fin 16) (hb : Scf.iv lo 1#32 k = BitVec.ofNat 32 b.val)
    (p : Fin 256) (d : Fin 16) (hd : v55 (ValueIdx.ix2 p (0 : Fin 1)) = BitVec.ofNat 32 d.val) :
    k0_pay2 (F := Ideal) (k0_pay31 (F := Ideal) v55) lo hi 1#32 k (ValueIdx.ix2 p (0 : Fin 1)) = ((if d = b then 1 else 0 : ℝ) : EReal) := by
  unfold k0_pay2 k0_pay31
  rw [shapeCast_self]
  refine (flag_word _ _).trans ?_
  show (((if v55 (ValueIdx.ix2 p (0 : Fin 1)) = Scf.iv lo 1#32 k then 1 else 0 : ℝ)) : EReal) = _
  rw [hb, hd]
  have : (BitVec.ofNat 32 d.val = BitVec.ofNat 32 b.val) ↔ d = b := by
    constructor
    · intro h
      have h' := congrArg BitVec.toNat h
      simp only [BitVec.toNat_ofNat] at h'
      have := d.isLt; have := b.isLt
      exact Fin.ext (by omega)
    · rintro rfl; rfl
  simp only [this]

/-- What the point's own image adds to the accumulator. -/
def add (M : Fin 4 → Fin 128 → ℝ) (C : Fin 4 → ℝ) (X : Fin 256 → ℝ) (c : Fin 2 → ℝ) : ℝ :=
  (∑ k : Fin 128, (q0 (X ⟨2 * k.val + 1, by omega⟩) * q0 (X ⟨2 * k.val, by omega⟩) * M 0 k + q0 (X ⟨2 * k.val + 1, by omega⟩) * q1 (X ⟨2 * k.val, by omega⟩) * M 1 k
      + q1 (X ⟨2 * k.val + 1, by omega⟩) * q0 (X ⟨2 * k.val, by omega⟩) * M 2 k + q1 (X ⟨2 * k.val + 1, by omega⟩) * q1 (X ⟨2 * k.val, by omega⟩) * M 3 k))
    + (q0 (c 1) * q0 (c 0) * C 0 + q0 (c 1) * q1 (c 0) * C 1 + q1 (c 1) * q0 (c 0) * C 2 + q1 (c 1) * q1 (c 0) * C 3)

/-- One of a trip's products: a weight of each coordinate, the flag, and the kept product. -/
theorem prod_at (u w : FVec Ideal S256x128 .f32) (V : FVec Ideal S1x1x128x512 .f32) (p : Fin 256) (o : Fin 512) (U W N : Fin 128 → ℝ) (f : ℝ)
    (hu : ∀ k, u (ValueIdx.ix2 p k) = (U k : EReal)) (hw : ∀ k, w (ValueIdx.ix2 p k) = ((W k * f : ℝ) : EReal))
    (hV : ∀ k, V (ValueIdx.ix4 (0 : Fin 1) (0 : Fin 1) k o) = (N k : EReal)) :
    matmul dot_S256x128_S128x512_S256x512_1_0_0_1_n_n none (mulf u w) (shapeCast S128x512 V shapeCasts_S1x1x128x512_S128x512)
        (constant S256x512 .f32 0x00000000#32) (ValueIdx.ix2 p o)
      = ((∑ k : Fin 128, U k * (W k * f) * N k : ℝ) : EReal) := by
  rw [mm_hidden, coe_sum]
  refine Finset.sum_congr rfl fun k _ => ?_
  rw [blk, hV]
  show u (ValueIdx.ix2 p k) * w (ValueIdx.ix2 p k) * (N k : EReal) = _
  rw [hu, hw]
  norm_cast

/-- The trip's stored block, of its pieces' entries. -/
theorem pay33_at (v27 v35 : FVec Ideal S256x128 .f32) (cst : Ideal .f32) (v88 : FVec Ideal S256x1 .f32) (v90 v92 : FVec Ideal S256x128 .f32)
    (v123 v131 v132 v135 : FVec Ideal S256x512 .f32) (v138 v143 v149 v155 : FVec Ideal S1x1x128x512 .f32) (p : Fin 256) (o : Fin 512)
    (Y0 Y1 X0 X1 : Fin 128 → ℝ) (f c a b A : ℝ) (M : Fin 4 → Fin 128 → ℝ)
    (h35 : ∀ k, v35 (ValueIdx.ix2 p k) = (Y0 k : EReal)) (h37 : ∀ k, k0_pay24 v27 cst (ValueIdx.ix2 p k) = (Y1 k : EReal))
    (h88 : v88 (ValueIdx.ix2 p (0 : Fin 1)) = (f : EReal)) (h90 : ∀ k, v90 (ValueIdx.ix2 p k) = ((X0 k * f : ℝ) : EReal))
    (h92 : ∀ k, v92 (ValueIdx.ix2 p k) = ((X1 k * f : ℝ) : EReal)) (h123 : v123 (ValueIdx.ix2 p o) = (c : EReal))
    (h131 : v131 (ValueIdx.ix2 p o) = (a : EReal)) (h132 : v132 (ValueIdx.ix2 p o) = (b : EReal)) (h135 : v135 (ValueIdx.ix2 p o) = (A : EReal))
    (h138 : ∀ k, v138 (ValueIdx.ix4 (0 : Fin 1) (0 : Fin 1) k o) = (M 0 k : EReal)) (h143 : ∀ k, v143 (ValueIdx.ix4 (0 : Fin 1) (0 : Fin 1) k o) = (M 1 k : EReal))
    (h149 : ∀ k, v149 (ValueIdx.ix4 (0 : Fin 1) (0 : Fin 1) k o) = (M 2 k : EReal)) (h155 : ∀ k, v155 (ValueIdx.ix4 (0 : Fin 1) (0 : Fin 1) k o) = (M 3 k : EReal)) :
    k0_pay33 (F := Ideal) v27 v35 cst v88 v90 v92 v123 v131 v132 v135 v138 v143 v149 v155 (ValueIdx.ix2 p o)
      = ((A + (((∑ k : Fin 128, Y0 k * (X0 k * f) * M 0 k) + (∑ k : Fin 128, Y0 k * (X1 k * f) * M 1 k) + (∑ k : Fin 128, Y1 k * (X0 k * f) * M 2 k)
          + (∑ k : Fin 128, Y1 k * (X1 k * f) * M 3 k)) + f * (c + a * b)) : ℝ) : EReal) := by
  have p0 := prod_at v35 v90 v138 p o Y0 X0 (M 0) f h35 h90 h138
  have p1 := prod_at v35 v92 v143 p o Y0 X1 (M 1) f h35 h92 h143
  have p2 := prod_at (k0_pay24 v27 cst) v90 v149 p o Y1 X0 (M 2) f h37 h90 h149
  have p3 := prod_at (k0_pay24 v27 cst) v92 v155 p o Y1 X1 (M 3) f h37 h92 h155
  have pf := (col512 v88 p o).trans h88
  unfold k0_pay33
  rw [shapeCast_self]
  rw [EReal.coe_add, EReal.coe_add, EReal.coe_add, EReal.coe_add, EReal.coe_add, EReal.coe_mul, EReal.coe_add, EReal.coe_mul,
    ← p0, ← p1, ← p2, ← p3, ← pf, ← h123, ← h131, ← h132, ← h135]
  rfl

/-- Three of the centre's terms. -/
theorem pay5_at (v47 v49 v52 v54 : FVec Ideal S256x1 .f32) (v96 v106 v117 : FVec Ideal S1x512 .f32) (p : Fin 256) (o : Fin 512) (a b c d n0 n1 n2 : ℝ)
    (h47 : v47 (ValueIdx.ix2 p (0 : Fin 1)) = (a : EReal)) (h49 : v49 (ValueIdx.ix2 p (0 : Fin 1)) = (b : EReal))
    (h52 : v52 (ValueIdx.ix2 p (0 : Fin 1)) = (c : EReal)) (h54 : v54 (ValueIdx.ix2 p (0 : Fin 1)) = (d : EReal))
    (h96 : v96 (ValueIdx.ix2 (0 : Fin 1) o) = (n0 : EReal)) (h106 : v106 (ValueIdx.ix2 (0 : Fin 1) o) = (n1 : EReal)) (h117 : v117 (ValueIdx.ix2 (0 : Fin 1) o) = (n2 : EReal)) :
    k0_pay5 (F := Ideal) v47 v49 v52 v54 v96 v106 v117 (ValueIdx.ix2 p o) = ((c * a * n0 + c * b * n1 + d * a * n2 : ℝ) : EReal) := by
  have e0 := (col512 (mulf v52 v47) p o).trans (congrArg₂ (fun y z : EReal => y * z) h52 h47)
  have e1 := (col512 (mulf v52 v49) p o).trans (congrArg₂ (fun y z : EReal => y * z) h52 h49)
  have e2 := (col512 (mulf v54 v47) p o).trans (congrArg₂ (fun y z : EReal => y * z) h54 h47)
  have r0 := (row512 v96 p o).trans h96
  have r1 := (row512 v106 p o).trans h106
  have r2 := (row512 v117 p o).trans h117
  unfold k0_pay5
  refine (congrArg₂ (fun y z : EReal => y + z) (congrArg₂ (fun y z : EReal => y + z) (congrArg₂ (fun y z : EReal => y * z) e0 r0)
    (congrArg₂ (fun y z : EReal => y * z) e1 r1)) (congrArg₂ (fun y z : EReal => y * z) e2 r2)).trans ?_
  norm_cast

/-- The centre's last weight. -/
theorem pay6_at (v49 v54 : FVec Ideal S256x1 .f32) (p : Fin 256) (o : Fin 512) (b d : ℝ)
    (h49 : v49 (ValueIdx.ix2 p (0 : Fin 1)) = (b : EReal)) (h54 : v54 (ValueIdx.ix2 p (0 : Fin 1)) = (d : EReal)) :
    k0_pay6 (F := Ideal) v49 v54 (ValueIdx.ix2 p o) = ((d * b : ℝ) : EReal) := by
  refine (col512 (mulf v54 v49) p o).trans ((congrArg₂ (fun y z : EReal => y * z) h54 h49).trans ?_)
  norm_cast

/-- A corner pixel's row in the kept products: four to an image. -/
def row64 (b : Fin 16) (j : Fin 4) : Fin 64 := ⟨4 * b.val + j.val, by have := b.isLt; have := j.isLt; omega⟩

section Trip
variable (x2 : FVec Ideal S256x2 .f32) (x3 : IVec S256x1 32) (x6 : FVec Ideal S256x256 .f32) (lo hi : BitVec 32) (hw : k0_chk1 lo hi)
  (vm : FVec Ideal S16x4x128x512 .f32) (vc : FVec Ideal S64x512 .f32) (p : Fin 256) (o : Fin 512)
  (X : Fin 256 → ℝ) (hX : ∀ q, x6 (ValueIdx.ix2 p q) = (X q : EReal)) (C : Fin 2 → ℝ) (hC : ∀ d, x2 (ValueIdx.ix2 p d) = (C d : EReal))
  (d : Fin 16) (hd : x3 (ValueIdx.ix2 p (0 : Fin 1)) = BitVec.ofNat 32 d.val)
  (M : Fin 16 → Fin 4 → Fin 128 → ℝ) (hM : ∀ b j k, vm (ValueIdx.ix4 b j k o) = (M b j k : EReal))
  (N : Fin 16 → Fin 4 → ℝ) (hN : ∀ b j, vc (ValueIdx.ix2 (row64 b j) o) = (N b j : EReal))
include hX hC hd hM hN

/-- One trip: the accumulator, and the image's share if it is the point's own. -/
theorem trip_at (k : Fin (k0_t1_loop lo hi).trips) (b : Fin 16) (hb : Scf.iv lo 1#32 k = BitVec.ofNat 32 b.val)
    (acc : FVec Ideal S256x512 .f32) (A : ℝ) (hA : acc (ValueIdx.ix2 p o) = (A : EReal)) :
    tripVal (F := Ideal) (k0_pay20 x6) (k0_pay21 x6) (k0_pay22 x6) (k0_pay23 x6) (FloatOps.ofBits FTy.f32 0#32) x2 x3 lo hi hw vm vc k acc (ValueIdx.ix2 p o)
      = ((A + if d = b then add (M d) (N d) X C else 0 : ℝ) : EReal) := by
  have hf := flag_at x3 lo hi k b hb p d hd
  have h3 : ∀ q, k0_pay3 (F := Ideal) (k0_pay21 x6) (k0_pay31 (F := Ideal) x3) lo hi 1#32 k (ValueIdx.ix2 p q)
      = ((q0 (X ⟨2 * q.val, by omega⟩) * (if d = b then 1 else 0) : ℝ) : EReal) := by
    intro q
    refine (congrArg₂ (fun y z : EReal => y * z) (pay21_at x6 p X hX q) ((col128 _ p q).trans hf)).trans ?_
    exact (EReal.coe_mul _ _).symm
  have h4 : ∀ q, k0_pay4 (F := Ideal) (k0_pay22 x6) (k0_pay31 (F := Ideal) x3) lo hi 1#32 k (ValueIdx.ix2 p q)
      = ((q1 (X ⟨2 * q.val, by omega⟩) * (if d = b then 1 else 0) : ℝ) : EReal) := by
    intro q
    refine (congrArg₂ (fun y z : EReal => y * z) (pay22_at x6 p X hX q) ((col128 _ p q).trans hf)).trans ?_
    exact (EReal.coe_mul _ _).symm
  have c27 := pay27_at x2 p C hC
  have c28 := pay28_at x2 p C hC
  have c29 := pay29_at x2 p C hC
  have c30 := pay30_at x2 p C hC
  unfold tripVal
  refine (pay33_at _ _ _ _ _ _ _ _ _ _ _ _ _ _ p o _ _ _ _ _ _ _ _ A (M b) (pay23_at x6 p X hX) (pay24_at x6 p X hX) hf h3 h4
    (pay5_at _ _ _ _ _ _ _ p o _ _ _ _ _ _ _ c27 c28 c29 c30
      ((ld_row vc _ _ ⟨4 * b.val + (0 : Fin 4).val, by have := b.isLt; show 4 * b.val + 0 < 64; omega⟩ (off2 lo hi k b hb) o).trans (hN b 0))
      ((ld_row vc _ _ ⟨4 * b.val + (1 : Fin 4).val, by have := b.isLt; show 4 * b.val + 1 < 64; omega⟩ (off3_1 lo hi k b hb) o).trans (hN b 1))
      ((ld_row vc _ _ ⟨4 * b.val + (2 : Fin 4).val, by have := b.isLt; show 4 * b.val + 2 < 64; omega⟩ (off3_2 lo hi k b hb) o).trans (hN b 2)))
    (pay6_at _ _ p o _ _ c28 c30)
    ((row512 _ p o).trans ((ld_row vc _ _ ⟨4 * b.val + (3 : Fin 4).val, by have := b.isLt; show 4 * b.val + 3 < 64; omega⟩ (off3_3 lo hi k b hb) o).trans (hN b 3)))
    hA (fun q => (ld_blk vm _ _ b 0 (off4 lo hi k b hb) q o).trans (hM b 0 q)) (fun q => (ld_blk vm _ _ b 1 (off5 lo hi k b hb) q o).trans (hM b 1 q))
    (fun q => (ld_blk vm _ _ b 2 (off6 lo hi k b hb) q o).trans (hM b 2 q)) (fun q => (ld_blk vm _ _ b 3 (off7 lo hi k b hb) q o).trans (hM b 3 q))).trans ?_
  refine congrArg (fun r : ℝ => (r : EReal)) ?_
  by_cases h : d = b
  · subst h
    simp only [if_true, mul_one, one_mul]
    unfold add
    rw [Finset.sum_add_distrib, Finset.sum_add_distrib, Finset.sum_add_distrib]
  · simp only [if_neg h, mul_zero, zero_mul, Finset.sum_const_zero, add_zero]

/-- The accumulator after some trips. -/
theorem acc_at (h1 : lo.toNat < 16) (h2 : hi.toNat < 16) (n : ℕ) (hn : n ≤ (k0_t1_loop lo hi).trips) :
    accAt (F := Ideal) (k0_pay20 x6) (k0_pay21 x6) (k0_pay22 x6) (k0_pay23 x6) (FloatOps.ofBits FTy.f32 0#32) x2 x3 lo hi hw vm vc (k0_pay32 (F := Ideal)) n (ValueIdx.ix2 p o)
      = ((if lo.toNat ≤ d.val ∧ d.val < lo.toNat + n then add (M d) (N d) X C else 0 : ℝ) : EReal) := by
  induction n with
  | zero =>
    rw [if_neg (by omega)]
    unfold accAt k0_pay32
    rw [shapeCast_self]
    exact w0
  | succ n ih =>
    have hlt : n < (k0_t1_loop lo hi).trips := hn
    have ht := trips_eq lo hi h1 h2
    have hbd : lo.toNat + n < 16 := by omega
    rw [accAt, dif_pos hlt,
      trip_at x2 x3 x6 lo hi hw vm vc p o X hX C hC d hd M hM N hN ⟨n, hlt⟩ ⟨lo.toNat + n, hbd⟩ (iv_eq lo h1 n ⟨lo.toNat + n, hbd⟩ rfl) _ _ (ih (Nat.le_of_lt hlt))]
    refine congrArg (fun r : ℝ => (r : EReal)) ?_
    by_cases h : d = ⟨lo.toNat + n, hbd⟩
    · have hv : d.val = lo.toNat + n := congrArg Fin.val h
      rw [if_pos h, if_neg (by omega), if_pos (by omega), zero_add]
    · have hv : d.val ≠ lo.toNat + n := fun e => h (Fin.ext e)
      rw [if_neg h, add_zero]
      exact if_congr (by omega) rfl rfl

/-- The accumulator after the loop, the point's image among the tile's. -/
theorem acc_all (h1 : lo.toNat < 16) (h2 : hi.toNat < 16) (hl : lo.toNat ≤ d.val) (hh : d.val ≤ hi.toNat) :
    accAt (F := Ideal) (k0_pay20 x6) (k0_pay21 x6) (k0_pay22 x6) (k0_pay23 x6) (FloatOps.ofBits FTy.f32 0#32) x2 x3 lo hi hw vm vc (k0_pay32 (F := Ideal)) (k0_t1_loop lo hi).trips (ValueIdx.ix2 p o)
      = ((add (M d) (N d) X C : ℝ) : EReal) := by
  rw [acc_at x2 x3 x6 lo hi hw vm vc p o X hX C hC d hd M hM N hN h1 h2 _ le_rfl, trips_eq lo hi h1 h2, if_pos (by omega)]

end Trip

end Cert.KernelSum
-- ==== Proof.KernelEntry.lean ====
/- The kernel's host steps at an entry, and the two kept products it makes of them. -/
module

public import proofs.«01_k».proof.Proof.KernelRun
public import proofs.«01_k».proof.Proof.KernelSum

@[expose] public section

noncomputable section

namespace Cert.KernelEntry

open Cert.KernelIdeal Cert.KernelIdeal.Gen Cert.Sample Cert.KernelWords Cert.KernelTrip Cert.KernelArray Cert.KernelSum
open Idealize.ShloMosaic Idealize.ShloMosaic.TcCoe Idealize.ShloMosaic.StableHlo

/-! ## Layout steps -/

section Layout
variable {α : Type}

/-- The corner pixels laid out by image and pixel, with the channels last. -/
theorem corner_at (x : S16x64x128x128.Idx → α) (b : Fin 16) (j : Fin 4) (c : Fin 64) :
    shapeCast S64x64 (transpose S16x2x2x64 [0, 2, 3, 1] (extractStridedSlice S16x64x2x2 ![0, 0, 0, 0] x slices_S16x64x128x128_S16x64x2x2_0_0_0_0)
        transposes_S16x64x2x2_S16x2x2x64_0_2_3_1) shapeCasts_S16x2x2x64_S64x64 (ValueIdx.ix2 (⟨4 * b.val + j.val, by omega⟩ : Fin 64) c)
      = x (ValueIdx.ix4 b c (⟨j.val / 2, by omega⟩ : Fin 128) (⟨j.val % 2, by omega⟩ : Fin 128)) := by
  refine (shapeCast_apply _ _ _ (ValueIdx.ix4 b (⟨j.val / 2, by omega⟩ : Fin 2) (⟨j.val % 2, by omega⟩ : Fin 2) c) ?_).trans ?_
  · rw [Shape.rowMajor_val_four, Shape.rowMajor_val_two]
    show ((b.val * 2 + j.val / 2) * 2 + j.val % 2) * 64 + c.val = (4 * b.val + j.val) * 64 + c.val
    omega
  refine (transpose_apply _ _ _ _ (ValueIdx.ix4 b c (⟨j.val / 2, by omega⟩ : Fin 2) (⟨j.val % 2, by omega⟩ : Fin 2)) fun a => by
    match a with
    | ⟨0, _⟩ => rfl
    | ⟨1, _⟩ => rfl
    | ⟨2, _⟩ => rfl
    | ⟨3, _⟩ => rfl).trans ?_
  exact extractStridedSlice_apply _ x _ _ _ fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm

/-- The first weights laid out by channel, with points and hidden columns on the second axis. -/
theorem weight_at (x : S512x8256.Idx → α) (c : Fin 64) (k : Fin 129) (o : Fin 512) :
    shapeCast S64x66048 (transpose S8256x512 [1, 0] x transposes_S512x8256_S8256x512_1_0) shapeCasts_S8256x512_S64x66048
        (ValueIdx.ix2 c (⟨k.val * 512 + o.val, by omega⟩ : Fin 66048))
      = x (ValueIdx.ix2 o (⟨c.val * 129 + k.val, by omega⟩ : Fin 8256)) := by
  refine (shapeCast_apply _ _ _ (ValueIdx.ix2 (⟨c.val * 129 + k.val, by omega⟩ : Fin 8256) o) ?_).trans ?_
  · rw [Shape.rowMajor_val_two, Shape.rowMajor_val_two]
    show (c.val * 129 + k.val) * 512 + o.val = c.val * 66048 + (k.val * 512 + o.val)
    omega
  exact transpose_apply _ x _ _ _ fun a => by
    match a with
    | ⟨0, _⟩ => rfl
    | ⟨1, _⟩ => rfl

/-- The second weights with their axes swapped. -/
theorem second_at (x : S256x512.Idx → α) (o : Fin 512) (j : Fin 256) :
    transpose S512x256 [1, 0] x transposes_S256x512_S512x256_1_0 (ValueIdx.ix2 o j) = x (ValueIdx.ix2 j o) :=
  transpose_apply _ x _ _ _ fun a => by
    match a with
    | ⟨0, _⟩ => rfl
    | ⟨1, _⟩ => rfl

/-- The index as a column. -/
theorem column_at (x : S4096.Idx → α) (p : Fin 4096) :
    shapeCast S4096x1 x shapeCasts_S4096_S4096x1 (ValueIdx.ix2 p (0 : Fin 1)) = x (ValueIdx.ix1 p) :=
  shapeCast_apply x _ _ _ (by
    rw [Shape.rowMajor_val_one, Shape.rowMajor_val_two]
    show p.val = p.val * 1 + 0
    omega)

/-- The bias as a row. -/
theorem row_at (x : S256.Idx → α) (j : Fin 256) :
    shapeCast S1x256 x shapeCasts_S256_S1x256 (ValueIdx.ix2 (0 : Fin 1) j) = x (ValueIdx.ix1 j) :=
  shapeCast_apply x _ _ _ (by
    rw [Shape.rowMajor_val_one, Shape.rowMajor_val_two]
    show j.val = 0 * 256 + j.val
    omega)

/-- The points with their two coordinates laid out in a line. -/
theorem flat_at (x : S4096x128x2.Idx → α) (p : Fin 4096) (n : Fin 128) (d : Fin 2) :
    shapeCast S4096x256 x shapeCasts_S4096x128x2_S4096x256 (ValueIdx.ix2 p (⟨n.val * 2 + d.val, by omega⟩ : Fin 256)) = x (ValueIdx.ix3 p n d) :=
  shapeCast_apply x _ _ _ (by
    rw [Shape.rowMajor_val_three, Shape.rowMajor_val_two]
    show (p.val * 128 + n.val) * 2 + d.val = p.val * 256 + (n.val * 2 + d.val)
    omega)

/-- The result with its line split into points and coordinates. -/
theorem split_at (x : S4096x256.Idx → α) (p : Fin 4096) (n : Fin 128) (d : Fin 2) :
    shapeCast S4096x128x2 x shapeCasts_S4096x256_S4096x128x2 (ValueIdx.ix3 p n d) = x (ValueIdx.ix2 p (⟨n.val * 2 + d.val, by omega⟩ : Fin 256)) :=
  shapeCast_apply x _ _ _ (by
    rw [Shape.rowMajor_val_three, Shape.rowMajor_val_two]
    show p.val * 256 + (n.val * 2 + d.val) = (p.val * 128 + n.val) * 2 + d.val
    omega)

/-- A product with its second axis split into points and hidden columns. -/
theorem prod_at (x : S64x66048.Idx → α) (r : Fin 64) (k : Fin 129) (o : Fin 512) :
    shapeCast S64x129x512 x shapeCasts_S64x66048_S64x129x512 (ValueIdx.ix3 r k o) = x (ValueIdx.ix2 r (⟨k.val * 512 + o.val, by omega⟩ : Fin 66048)) :=
  shapeCast_apply x _ _ _ (by
    rw [Shape.rowMajor_val_three, Shape.rowMajor_val_two]
    show r.val * 66048 + (k.val * 512 + o.val) = (r.val * 129 + k.val) * 512 + o.val
    omega)

/-- The points' part of a product, by image and pixel. -/
theorem points_at (x : S64x129x512.Idx → α) (b : Fin 16) (j : Fin 4) (k : Fin 128) (o : Fin 512) :
    shapeCast S16x4x128x512 (extractStridedSlice S64x128x512 ![0, 1, 0] x slices_S64x129x512_o0_1_0_S64x128x512) shapeCasts_S64x128x512_S16x4x128x512
        (ValueIdx.ix4 b j k o)
      = x (ValueIdx.ix3 (⟨4 * b.val + j.val, by omega⟩ : Fin 64) (k.succ : Fin 129) o) := by
  refine (shapeCast_apply _ _ _ (ValueIdx.ix3 (⟨4 * b.val + j.val, by omega⟩ : Fin 64) k o) ?_).trans ?_
  · rw [Shape.rowMajor_val_three, Shape.rowMajor_val_four]
    show ((4 * b.val + j.val) * 128 + k.val) * 512 + o.val = ((b.val * 4 + j.val) * 128 + k.val) * 512 + o.val
    omega
  exact extractStridedSlice_apply _ x _ _ _ fun a => by
    match a with
    | ⟨0, _⟩ => exact (Nat.zero_add _).symm
    | ⟨1, _⟩ => exact Nat.add_comm k.val 1
    | ⟨2, _⟩ => exact (Nat.zero_add _).symm

/-- The centre's part of a product. -/
theorem centre_at (x : S64x129x512.Idx → α) (r : Fin 64) (o : Fin 512) :
    shapeCast S64x512 (extractStridedSlice S64x1x512 ![0, 0, 0] x slices_S64x129x512_o0_0_0_S64x1x512) shapeCasts_S64x1x512_S64x512 (ValueIdx.ix2 r o)
      = x (ValueIdx.ix3 r (0 : Fin 129) o) := by
  refine (shapeCast_apply _ _ _ (ValueIdx.ix3 r (0 : Fin 1) o) ?_).trans ?_
  · rw [Shape.rowMajor_val_three, Shape.rowMajor_val_two]
    show (r.val * 1 + 0) * 512 + o.val = r.val * 512 + o.val
    omega
  exact extractStridedSlice_apply _ x _ _ _ fun a => by
    match a with
    | ⟨0, _⟩ => exact (Nat.zero_add _).symm
    | ⟨1, _⟩ => rfl
    | ⟨2, _⟩ => exact (Nat.zero_add _).symm

end Layout

/-! ## The two kept products -/

/-- The product of a corner pixel's channels and the first weights, over real entries. -/
theorem pay15_at (u : FVec Ideal S64x64 .f32) (v : FVec Ideal S64x66048 .f32) (r : Fin 64) (k : Fin 129) (o : Fin 512) (G W : Fin 64 → ℝ)
    (hu : ∀ c, u (ValueIdx.ix2 r c) = (G c : EReal)) (hv : ∀ c, v (ValueIdx.ix2 c (⟨k.val * 512 + o.val, by omega⟩ : Fin 66048)) = (W c : EReal)) :
    k0_pay15 (F := Ideal) u v (ValueIdx.ix3 r k o) = ((∑ c, G c * W c : ℝ) : EReal) := by
  unfold k0_pay15
  refine (prod_at _ r k o).trans ?_
  refine (mm_corner _ _ r _).trans ?_
  rw [coe_sum]
  refine Finset.sum_congr rfl fun c _ => ?_
  rw [EReal.coe_mul, ← hu c, ← hv c]
  exact congrArg₂ (· * ·) (congrFun (shapeCast_self u _) _) (congrFun (shapeCast_self v _) _)

/-- The points' kept product at an entry. -/
theorem pay16_at (u : FVec Ideal S64x64 .f32) (v : FVec Ideal S64x66048 .f32) (b : Fin 16) (j : Fin 4) (k : Fin 128) (o : Fin 512) :
    k0_pay16 (F := Ideal) u v (ValueIdx.ix4 b j k o) = k0_pay15 (F := Ideal) u v (ValueIdx.ix3 (⟨4 * b.val + j.val, by omega⟩ : Fin 64) (k.succ : Fin 129) o) := by
  unfold k0_pay16
  exact (congrFun (shapeCast_self _ _) _).trans (points_at _ b j k o)

/-- The centres' kept product at an entry. -/
theorem pay17_at (u : FVec Ideal S64x64 .f32) (v : FVec Ideal S64x66048 .f32) (r : Fin 64) (o : Fin 512) :
    k0_pay17 (F := Ideal) u v (ValueIdx.ix2 r o) = k0_pay15 (F := Ideal) u v (ValueIdx.ix3 r (0 : Fin 129) o) := by
  unfold k0_pay17
  exact (congrFun (shapeCast_self _ _) _).trans (centre_at _ r o)

/-- A tile's block of the first output at an entry. -/
theorem pay1_at (a : FVec Ideal S256x512 .f32) (b : FVec Ideal S512x256 .f32) (e : FVec Ideal S1x256 .f32) (i : FVec Ideal S256x256 .f32) (p j : Fin 256) :
    k0_pay1 (F := Ideal) a b e i (ValueIdx.ix2 p j)
      = ((∑ o : Fin 512, a (ValueIdx.ix2 p o) * b (ValueIdx.ix2 o j)) + e (ValueIdx.ix2 (0 : Fin 1) j)) * Ideal.ofBits .f32 0x40800000#32
        + i (ValueIdx.ix2 p j) := by
  unfold k0_pay1
  refine congrArg₂ (· + ·) (congrArg₂ (· * ·) (congrArg₂ (· + ·) ?_ ?_) rfl) (congrFun (shapeCast_self i _) _)
  · refine (mm_out _ _ p j).trans (Finset.sum_congr rfl fun o _ => ?_)
    exact congrArg (a (ValueIdx.ix2 p o) * ·) (congrFun (shapeCast_self b _) _)
  · refine (broadcastTo_apply _ _ _ (ValueIdx.ix2 (0 : Fin 1) j) fun a => by match a with | ⟨0, _⟩ => rfl | ⟨1, _⟩ => rfl).trans ?_
    exact congrFun (shapeCast_self e _) _

/-! ## The host steps -/

variable {F : FTy → Type} [FloatOps F] (m : (ℓ : Loc nD τ sig) → Buf (Elt F) ℓ)

/-- The corner pixels the kernel takes. -/
theorem V_v2 (c : Dev nD) : V m c main_v2 = shapeCast S64x64 (transpose S16x2x2x64 [0, 2, 3, 1] (extractStridedSlice S16x64x2x2 ![0, 0, 0, 0]
    (m ((c : Thread nD τ).loc main_arg0) : Vec F S16x64x128x128 .f32) slices_S16x64x128x128_S16x64x2x2_0_0_0_0)
    transposes_S16x64x2x2_S16x2x2x64_0_2_3_1) shapeCasts_S16x2x2x64_S64x64 := by
  show StableHlo.after hostOps0 _ (Proc.devRef .tc main_v2) = _
  after_results <;> rfl
/-- The first weights the kernel takes. -/
theorem V_v4 (c : Dev nD) : V m c main_v4 = shapeCast S64x66048 (transpose S8256x512 [1, 0]
    (m ((c : Thread nD τ).loc main_arg4) : Vec F S512x8256 .f32) transposes_S512x8256_S8256x512_1_0) shapeCasts_S8256x512_S64x66048 := by
  show StableHlo.after hostOps0 _ (Proc.devRef .tc main_v4) = _
  after_results <;> rfl
/-- The index the kernel takes. -/
theorem V_v5 (c : Dev nD) : V m c main_v5 = shapeCast S4096x1 (m ((c : Thread nD τ).loc main_arg3) : Vec F S4096 .i32) shapeCasts_S4096_S4096x1 := by
  show StableHlo.after hostOps0 _ (Proc.devRef .tc main_v5) = _
  after_results <;> rfl
/-- The second weights the kernel takes. -/
theorem V_v9 (c : Dev nD) : V m c main_v9 = transpose S512x256 [1, 0] (m ((c : Thread nD τ).loc main_arg5) : Vec F S256x512 .f32)
    transposes_S256x512_S512x256_1_0 := by
  show StableHlo.after hostOps0 _ (Proc.devRef .tc main_v9) = _
  after_results <;> rfl
/-- The bias the kernel takes. -/
theorem V_v10 (c : Dev nD) : V m c main_v10 = shapeCast S1x256 (m ((c : Thread nD τ).loc main_arg6) : Vec F S256 .f32) shapeCasts_S256_S1x256 := by
  show StableHlo.after hostOps0 _ (Proc.devRef .tc main_v10) = _
  after_results <;> rfl
/-- The points the kernel takes. -/
theorem V_v11 (c : Dev nD) : V m c main_v11 = shapeCast S4096x256 (m ((c : Thread nD τ).loc main_arg2) : Vec F S4096x128x2 .f32)
    shapeCasts_S4096x128x2_S4096x256 := by
  show StableHlo.after hostOps0 _ (Proc.devRef .tc main_v11) = _
  after_results <;> rfl
/-- The centres the kernel takes. -/
theorem V_arg1 (c : Dev nD) : V m c main_arg1 = m ((c : Thread nD τ).loc main_arg1) := by
  show StableHlo.after hostOps0 _ (Proc.devRef .tc main_arg1) = _
  after_results <;> rfl

end Cert.KernelEntry
-- ==== Proof.HidSum.lean ====
/- The kernel's order of the hidden sum and the reference's are one sum. -/
module

public import proofs.«01_k».proof.Proof.KernelSum

@[expose] public section

noncomputable section

namespace Cert.HidSum

open Cert.Sample Cert.KernelSum

/-- A corner pixel's channels by the weights of one point. -/
def dotc (g : Fin 64 → Fin 128 → Fin 128 → ℝ) (w : Fin 64 → Fin 129 → ℝ) (j : Fin 4) (k : Fin 129) : ℝ :=
  ∑ c : Fin 64, g c (⟨j.val / 2, by omega⟩ : Fin 128) (⟨j.val % 2, by omega⟩ : Fin 128) * w c k

/-- One point's samples by its weights, summed over channels, are the four corner weights by the channels' products. -/
theorem point_sum (g : Fin 64 → Fin 128 → Fin 128 → ℝ) (w : Fin 64 → Fin 129 → ℝ) (k : Fin 129) (x y : ℝ) :
    (∑ c : Fin 64, samp (g c) x y * w c k)
      = q0 y * q0 x * dotc g w 0 k + q0 y * q1 x * dotc g w 1 k + q1 y * q0 x * dotc g w 2 k + q1 y * q1 x * dotc g w 3 k := by
  unfold dotc
  rw [Finset.mul_sum, Finset.mul_sum, Finset.mul_sum, Finset.mul_sum, ← Finset.sum_add_distrib, ← Finset.sum_add_distrib, ← Finset.sum_add_distrib]
  refine Finset.sum_congr rfl fun c _ => ?_
  unfold samp
  show _ = q0 y * q0 x * (g c 0 0 * w c k) + q0 y * q1 x * (g c 0 1 * w c k) + q1 y * q0 x * (g c 1 0 * w c k) + q1 y * q1 x * (g c 1 1 * w c k)
  ring

/-- The kernel's sum over points and centre is the reference's sum over all the points. -/
theorem add_hid (g : Fin 64 → Fin 128 → Fin 128 → ℝ) (w : Fin 64 → Fin 129 → ℝ) (P : Fin 129 → Fin 2 → ℝ) (X : Fin 256 → ℝ) (C : Fin 2 → ℝ)
    (h0 : ∀ d, P 0 d = C d) (hs : ∀ (k : Fin 128) (d : Fin 2), P k.succ d = X ⟨k.val * 2 + d.val, by omega⟩) :
    add (fun j k => dotc g w j k.succ) (fun j => dotc g w j 0) X C = hid g (fun k => P k 0) (fun k => P k 1) w := by
  have hh : hid g (fun k => P k 0) (fun k => P k 1) w
      = (∑ k : Fin 128, ∑ c : Fin 64, samp (g c) (P k.succ 0) (P k.succ 1) * w c k.succ) + ∑ c : Fin 64, samp (g c) (P 0 0) (P 0 1) * w c 0 :=
    (Fin.sum_univ_succ fun k : Fin 129 => ∑ c : Fin 64, samp (g c) (P k 0) (P k 1) * w c k).trans (add_comm _ _)
  rw [hh]
  unfold add
  refine congrArg₂ (· + ·) (Finset.sum_congr rfl fun k _ => ?_) ?_
  · have e0 : X ⟨2 * k.val, by omega⟩ = P k.succ 0 := by
      rw [hs]; exact congrArg X (Fin.ext (by show 2 * k.val = k.val * 2 + 0; omega))
    have e1 : X ⟨2 * k.val + 1, by omega⟩ = P k.succ 1 := by
      rw [hs]; exact congrArg X (Fin.ext (by show 2 * k.val + 1 = k.val * 2 + 1; omega))
    rw [point_sum, e0, e1]
  · rw [point_sum, h0, h0]

end Cert.HidSum
-- ==== Proof.KernelValue.lean ====
/- The kernel's first output at an entry: the hidden values of the row by the second weights, the bias, the factor and the initial point. -/
module

public import proofs.«01_k».proof.Proof.KernelEntry
public import proofs.«01_k».proof.Proof.HidSum

@[expose] public section

noncomputable section

namespace Cert.KernelValue

open Cert.KernelIdeal Cert.KernelIdeal.Gen Cert.Sample Cert.KernelTrip Cert.KernelArray Cert.KernelSum Cert.KernelEntry Cert.KernelRun Cert.HidSum
open Idealize.ShloMosaic Idealize.ShloMosaic.TcCoe Idealize.ShloMosaic.StableHlo

/-- A row's accumulator after the image loop is the row's hidden value, over the corner pixels and first weights the kernel takes. -/
theorem acc_hid (u : FVec Ideal S64x64 .f32) (v : FVec Ideal S64x66048 .f32) (f : S16x64x128x128.Idx → ℝ) (w : S512x8256.Idx → ℝ)
    (hu : ∀ (b : Fin 16) (j : Fin 4) (c : Fin 64), u (ValueIdx.ix2 (⟨4 * b.val + j.val, by omega⟩ : Fin 64) c)
      = (f (ValueIdx.ix4 b c (⟨j.val / 2, by omega⟩ : Fin 128) (⟨j.val % 2, by omega⟩ : Fin 128)) : EReal))
    (hv : ∀ (c : Fin 64) (k : Fin 129) (o : Fin 512), v (ValueIdx.ix2 c (⟨k.val * 512 + o.val, by omega⟩ : Fin 66048))
      = (w (ValueIdx.ix2 o (⟨c.val * 129 + k.val, by omega⟩ : Fin 8256)) : EReal))
    (x2 : FVec Ideal S256x2 .f32) (x3 : IVec S256x1 32) (x6 : FVec Ideal S256x256 .f32) (lo hi : BitVec 32) (hw : k0_chk1 lo hi) (p : Fin 256)
    (X : Fin 256 → ℝ) (hX : ∀ q, x6 (ValueIdx.ix2 p q) = (X q : EReal)) (C : Fin 2 → ℝ) (hC : ∀ d, x2 (ValueIdx.ix2 p d) = (C d : EReal))
    (d : Fin 16) (hd : x3 (ValueIdx.ix2 p (0 : Fin 1)) = BitVec.ofNat 32 d.val) (h1 : lo.toNat < 16) (h2 : hi.toNat < 16) (hl : lo.toNat ≤ d.val)
    (hh : d.val ≤ hi.toNat) (P : Fin 129 → Fin 2 → ℝ) (h0 : ∀ e, P 0 e = C e)
    (hs : ∀ (k : Fin 128) (e : Fin 2), P k.succ e = X ⟨k.val * 2 + e.val, by omega⟩) (o : Fin 512) :
    accAt (F := Ideal) (k0_pay20 x6) (k0_pay21 x6) (k0_pay22 x6) (k0_pay23 x6) (FloatOps.ofBits FTy.f32 0#32) x2 x3 lo hi hw
        (k0_pay16 (F := Ideal) u v) (k0_pay17 (F := Ideal) u v) (k0_pay32 (F := Ideal)) (k0_t1_loop lo hi).trips (ValueIdx.ix2 p o)
      = ((hid (fun c y x => f (ValueIdx.ix4 d c y x)) (fun k => P k 0) (fun k => P k 1)
          (fun c k => w (ValueIdx.ix2 o (⟨c.val * 129 + k.val, by omega⟩ : Fin 8256))) : ℝ) : EReal) := by
  have e : ∀ (b : Fin 16) (j : Fin 4) (k : Fin 129), k0_pay15 (F := Ideal) u v (ValueIdx.ix3 (⟨4 * b.val + j.val, by omega⟩ : Fin 64) k o)
      = ((dotc (fun c y x => f (ValueIdx.ix4 b c y x)) (fun c k => w (ValueIdx.ix2 o (⟨c.val * 129 + k.val, by omega⟩ : Fin 8256))) j k : ℝ) : EReal) :=
    fun b j k => pay15_at u v _ k o _ _ (hu b j) (fun c => hv c k o)
  refine (acc_all x2 x3 x6 lo hi hw _ _ p o X hX C hC d hd
    (fun b j k => dotc (fun c y x => f (ValueIdx.ix4 b c y x)) (fun c k => w (ValueIdx.ix2 o (⟨c.val * 129 + k.val, by omega⟩ : Fin 8256))) j k.succ)
    (fun b j k => (pay16_at u v b j k o).trans (e b j k.succ))
    (fun b j => dotc (fun c y x => f (ValueIdx.ix4 b c y x)) (fun c k => w (ValueIdx.ix2 o (⟨c.val * 129 + k.val, by omega⟩ : Fin 8256))) j 0)
    (fun b j => (pay17_at u v _ o).trans (e b j 0)) h1 h2 hl hh).trans ?_
  exact congrArg (fun r : ℝ => (r : EReal)) (add_hid _ _ P X C h0 hs)

/-- A point's block at an entry, from its rows' hidden values. -/
theorem ptVal_at (lo hi : BitVec 32) (hw : k0_chk1 lo hi) (vm : FVec Ideal S16x4x128x512 .f32) (vc : FVec Ideal S64x512 .f32)
    (x2 : FVec Ideal S256x2 .f32) (x3 : IVec S256x1 32) (x4 : FVec Ideal S512x256 .f32) (x5 : FVec Ideal S1x256 .f32) (x6 : FVec Ideal S256x256 .f32)
    (p j : Fin 256) (H : Fin 512 → ℝ)
    (hH : ∀ o, accAt (F := Ideal) (k0_pay20 x6) (k0_pay21 x6) (k0_pay22 x6) (k0_pay23 x6) (FloatOps.ofBits FTy.f32 0#32) x2 x3 lo hi hw vm vc
      (k0_pay32 (F := Ideal)) (k0_t1_loop lo hi).trips (ValueIdx.ix2 p o) = (H o : EReal)) :
    ptVal (F := Ideal) lo hi hw vm vc x2 x3 x4 x5 x6 (ValueIdx.ix2 p j)
      = ((∑ o : Fin 512, (H o : EReal) * x4 (ValueIdx.ix2 o j)) + x5 (ValueIdx.ix2 (0 : Fin 1) j)) * Ideal.ofBits .f32 0x40800000#32
        + x6 (ValueIdx.ix2 p j) := by
  unfold ptVal
  rw [pay1_at]
  exact congrArg (fun s => (s + x5 (ValueIdx.ix2 (0 : Fin 1) j)) * Ideal.ofBits .f32 0x40800000#32 + x6 (ValueIdx.ix2 p j))
    (Finset.sum_congr rfl fun o _ => congrArg (· * x4 (ValueIdx.ix2 o j)) (hH o))

variable (m : (ℓ : Loc nD τ sig) → Buf (Elt Ideal) ℓ)

/-- The kernel's arguments at device zero. -/
abbrev a0 : FVec Ideal S16x64x128x128 .f32 := m (((0 : Dev nD) : Thread nD τ).loc main_arg0)
/-- The centres. -/
abbrev a1 : FVec Ideal S4096x2 .f32 := m (((0 : Dev nD) : Thread nD τ).loc main_arg1)
/-- The initial points. -/
abbrev a2 : FVec Ideal S4096x128x2 .f32 := m (((0 : Dev nD) : Thread nD τ).loc main_arg2)
/-- The index. -/
abbrev a3 : IVec S4096 32 := m (((0 : Dev nD) : Thread nD τ).loc main_arg3)
/-- The first weights. -/
abbrev a4 : FVec Ideal S512x8256 .f32 := m (((0 : Dev nD) : Thread nD τ).loc main_arg4)
/-- The second weights. -/
abbrev a5 : FVec Ideal S256x512 .f32 := m (((0 : Dev nD) : Thread nD τ).loc main_arg5)
/-- The bias. -/
abbrev a6 : FVec Ideal S256 .f32 := m (((0 : Dev nD) : Thread nD τ).loc main_arg6)

/-- The first output at an entry, when the features, first weights and points are real and the index is sorted image numbers. -/
theorem out_at (hO : Ok m) (hH : Hyps m hO) (f : S16x64x128x128.Idx → ℝ) (hf : ∀ y, a0 m y = (f y : EReal)) (w : S512x8256.Idx → ℝ)
    (hw : ∀ y, a4 m y = (w y : EReal)) (hb : ∀ y, (a3 m y).toNat < 16)
    (mono : ∀ (n k : ℕ) (hk : n + k < 4096), (a3 m (ValueIdx.ix1 ⟨n, by omega⟩)).toNat ≤ (a3 m (ValueIdx.ix1 ⟨n + k, hk⟩)).toNat)
    (p : Fin 4096) (P : Fin 129 → Fin 2 → ℝ) (h0 : ∀ d, a1 m (ValueIdx.ix2 p d) = (P 0 d : EReal))
    (hs : ∀ (k : Fin 128) (d : Fin 2), a2 m (ValueIdx.ix3 p k d) = (P k.succ d : EReal)) (n : Fin 128) (d : Fin 2) :
    out8 m hO hH 0 (ValueIdx.ix2 p (⟨n.val * 2 + d.val, by omega⟩ : Fin 256))
      = ((∑ o : Fin 512, ((hid (fun c y x => f (ValueIdx.ix4 ⟨(a3 m (ValueIdx.ix1 p)).toNat, hb _⟩ c y x)) (fun k => P k 0) (fun k => P k 1)
            (fun c k => w (ValueIdx.ix2 o (⟨c.val * 129 + k.val, by omega⟩ : Fin 8256))) : ℝ) : EReal)
              * a5 m (ValueIdx.ix2 (⟨n.val * 2 + d.val, by omega⟩ : Fin 256) o))
          + a6 m (ValueIdx.ix1 (⟨n.val * 2 + d.val, by omega⟩ : Fin 256))) * Ideal.ofBits .f32 0x40800000#32 + a2 m (ValueIdx.ix3 p n d) := by
  have hN : p.val / 256 < 16 := by omega
  obtain ⟨t, ht⟩ : ∃ t : Fin (cfgM m hO).N, t = ptOf m hO p := ⟨_, rfl⟩
  have htv : t.val = p.val / 256 := congrArg Fin.val ht
  obtain ⟨r, hr⟩ : ∃ r : Fin 256, r = ⟨p.val % 256, Nat.mod_lt _ (by decide)⟩ := ⟨_, rfl⟩
  have hrv : r.val = p.val % 256 := congrArg Fin.val hr
  have hlt : 256 * t.val + r.val < 4096 := by omega
  have hp : (⟨256 * t.val + r.val, hlt⟩ : Fin 4096) = p := Fin.ext (by show 256 * t.val + r.val = p.val; omega)
  have hc : ((grid0.coords t) 0).val = t.val := coords_val t
  have l1 : word (0 : Dev nD) (grid0.coords t) tbM0_0 (tbl m 0) = a3 m (ValueIdx.ix1 ⟨256 * t.val, by omega⟩) :=
    (Cert.KernelIdealFrame.lo_eq m (grid0.coords t)).trans (congrArg (fun q => a3 m (ValueIdx.ix1 q)) (Fin.ext (congrArg (256 * ·) hc)))
  have l2 : word (0 : Dev nD) (grid0.coords t) tbM0_1 (tbl m 1) = a3 m (ValueIdx.ix1 ⟨256 * t.val + 255, by omega⟩) :=
    (Cert.KernelIdealFrame.hi_eq m (grid0.coords t)).trans (congrArg (fun q => a3 m (ValueIdx.ix1 q)) (Fin.ext (congrArg (256 * · + 255) hc)))
  have h1 : (word (0 : Dev nD) (grid0.coords t) tbM0_0 (tbl m 0)).toNat < 16 := (congrArg BitVec.toNat l1).trans_lt (hb _)
  have h2 : (word (0 : Dev nD) (grid0.coords t) tbM0_1 (tbl m 1)).toNat < 16 := (congrArg BitVec.toNat l2).trans_lt (hb _)
  have hl : (word (0 : Dev nD) (grid0.coords t) tbM0_0 (tbl m 0)).toNat ≤ (a3 m (ValueIdx.ix1 p)).toNat := by
    refine (congrArg BitVec.toNat l1).trans_le ((mono (256 * t.val) r.val hlt).trans_eq ?_)
    rw [hp]
  have hh : (a3 m (ValueIdx.ix1 p)).toNat ≤ (word (0 : Dev nD) (grid0.coords t) tbM0_1 (tbl m 1)).toNat := by
    refine ((mono p.val (255 - r.val) (by omega)).trans_eq ?_).trans_eq (congrArg BitVec.toNat l2).symm
    exact congrArg (fun q => (a3 m (ValueIdx.ix1 q)).toNat) (Fin.ext (by show p.val + (255 - r.val) = 256 * t.val + 255; omega))
  have i2 : ∀ q, (iblk m hO 0 2 t : Vec Ideal S256x2 .f32) (ValueIdx.ix2 r q) = (P 0 q : EReal) := fun q => by
    refine (iblk2 m hO 0 t r q hlt).trans ?_
    rw [hp]
    exact (congrFun (V_arg1 m 0) _).trans (h0 q)
  have i3 : (iblk m hO 0 3 t : Vec Ideal S256x1 .i32) (ValueIdx.ix2 r (0 : Fin 1)) = BitVec.ofNat 32 (a3 m (ValueIdx.ix1 p)).toNat := by
    refine (iblk3 m hO 0 t r 0 hlt).trans ?_
    rw [hp]
    refine ((congrFun (V_v5 m 0) _).trans (column_at _ p)).trans ?_
    simp only [BitVec.ofNat_toNat, BitVec.setWidth_eq]
  have i6 : ∀ (k : Fin 128) (e : Fin 2), (iblk m hO 0 6 t : Vec Ideal S256x256 .f32) (ValueIdx.ix2 r (⟨k.val * 2 + e.val, by omega⟩ : Fin 256))
      = a2 m (ValueIdx.ix3 p k e) := fun k e => by
    refine (iblk6 m hO 0 t r _ hlt).trans ?_
    rw [hp]
    exact (congrFun (V_v11 m 0) _).trans (flat_at _ p k e)
  have hX : ∀ q : Fin 256, (iblk m hO 0 6 t : Vec Ideal S256x256 .f32) (ValueIdx.ix2 r q)
      = ((P (⟨q.val / 2, by omega⟩ : Fin 128).succ (⟨q.val % 2, by omega⟩ : Fin 2) : ℝ) : EReal) := fun q => by
    have e : q = ⟨(⟨q.val / 2, by omega⟩ : Fin 128).val * 2 + (⟨q.val % 2, by omega⟩ : Fin 2).val, by show q.val / 2 * 2 + q.val % 2 < 256; omega⟩ :=
      Fin.ext (by show q.val = q.val / 2 * 2 + q.val % 2; omega)
    rw [← hs, ← i6]
    exact congrArg (fun z : Fin 256 => (iblk m hO 0 6 t : Vec Ideal S256x256 .f32) (ValueIdx.ix2 r z)) e
  have hu : ∀ (b : Fin 16) (j : Fin 4) (c : Fin 64), (V m 0 main_v2 : Vec Ideal S64x64 .f32) (ValueIdx.ix2 (⟨4 * b.val + j.val, by omega⟩ : Fin 64) c)
      = (f (ValueIdx.ix4 b c (⟨j.val / 2, by omega⟩ : Fin 128) (⟨j.val % 2, by omega⟩ : Fin 128)) : EReal) := fun b j c =>
    ((congrFun (V_v2 m 0) _).trans (corner_at _ b j c)).trans (hf _)
  have hv : ∀ (c : Fin 64) (k : Fin 129) (o : Fin 512), (V m 0 main_v4 : Vec Ideal S64x66048 .f32) (ValueIdx.ix2 c (⟨k.val * 512 + o.val, by omega⟩ : Fin 66048))
      = (w (ValueIdx.ix2 o (⟨c.val * 129 + k.val, by omega⟩ : Fin 8256)) : EReal) := fun c k o =>
    ((congrFun (V_v4 m 0) _).trans (weight_at _ c k o)).trans (hw _)
  have hA := fun o => acc_hid (V m 0 main_v2) (V m 0 main_v4) f w hu hv (iblk m hO 0 2 t) (iblk m hO 0 3 t) (iblk m hO 0 6 t) _ _ (Hyps.c0 hH 0 t) r
    _ hX _ i2 ⟨(a3 m (ValueIdx.ix1 p)).toNat, hb _⟩ i3 h1 h2 hl hh P (fun _ => rfl) (fun k e => by
      refine congrArg₂ (fun (x : Fin 129) (y : Fin 2) => P x y) (congrArg Fin.succ (Fin.ext ?_)) (Fin.ext ?_)
      · show k.val = (k.val * 2 + e.val) / 2; omega
      · show e.val = (k.val * 2 + e.val) % 2; omega) o
  have hB := (congrFun (point m hO hH 0 t h1 h2) (ValueIdx.ix2 r (⟨n.val * 2 + d.val, by omega⟩ : Fin 256))).trans
    (ptVal_at _ _ (Hyps.c0 hH 0 t) (vmK m 0) (vcK m 0) (iblk m hO 0 2 t) (iblk m hO 0 3 t) (V m 0 main_v9) (V m 0 main_v10) (iblk m hO 0 6 t) r
      (⟨n.val * 2 + d.val, by omega⟩ : Fin 256) _ hA)
  rw [i6 n d, (congrFun (V_v10 m 0) _).trans (row_at _ (⟨n.val * 2 + d.val, by omega⟩ : Fin 256))] at hB
  subst ht
  subst hr
  refine Eq.trans hB ?_
  refine congrArg (fun s => (s + a6 m (ValueIdx.ix1 (⟨n.val * 2 + d.val, by omega⟩ : Fin 256))) * Ideal.ofBits .f32 0x40800000#32 + a2 m (ValueIdx.ix3 p n d)) ?_
  exact Finset.sum_congr rfl fun o _ => congrArg (_ * ·) ((congrFun (V_v9 m 0) _).trans (second_at _ o _))

end Cert.KernelValue
-- ==== Proof.RefTap.lean ====
/- The reference's four taps read at a point and a channel: the feature at the clipped pixel times the tap's weight and validity. -/
module

public import proofs.«01_k».proof.Proof.Gen.ReferenceIdeal.Read
public import proofs.«01_k».proof.Proof.Sample

@[expose] public section

noncomputable section

namespace Cert.RefTap

open Cert.ReferenceIdeal Cert.ReferenceIdeal.Gen Cert.ReferenceIdeal.Read Cert.Tap Cert.Sample
open Idealize.ShloMosaic Idealize.ShloMosaic.TcCoe Idealize.ShloMosaic.StableHlo

/-- The clipped pixel's word is that pixel. -/
theorem clip_pix (x : ℝ) : (clip x).toInt.toNat = (pix x).val := by
  unfold clip pix; split <;> rfl

/-- The gather read at a point and a channel: the operand at the three start indices, all in range. -/
theorem gather_at (x : FVec Ideal S16x128x128x64 .f32) (idx : IVec S4096x129x3 32) (p : Fin 4096) (k : Fin 129) (c : Fin 64)
    (b : Fin 16) (u v : Fin 128) (h0 : (idx (ValueIdx.ix3 p k (0 : Fin 3))).toInt.toNat = b.val)
    (h1 : (idx (ValueIdx.ix3 p k (1 : Fin 3))).toInt.toNat = u.val) (h2 : (idx (ValueIdx.ix3 p k (2 : Fin 3))).toInt.toNat = v.val) :
    Host.gather gather_S16x128x128x64_S4096x129x3_S4096x129x64_2_012_n_n_012_2_11164 x idx (ValueIdx.ix3 p k c) = x (ValueIdx.ix4 b u v c) := by
  unfold Host.gather
  refine congrArg x (funext fun a => Fin.ext ?_)
  let G := gather_S16x128x128x64_S4096x129x3_S4096x129x64_2_012_n_n_012_2_11164
  have key : ∀ a : Fin 4, ∀ ha : a ∈ G.startIndexMap, ∀ q : Fin 3, G.siIdx (ValueIdx.ix3 p k c) ⟨G.startIndexMap.idxOf a, List.idxOf_lt_length_iff.2 ha⟩ = ValueIdx.ix3 p k q →
      G.start (ValueIdx.ix3 p k c) idx a = min (idx (ValueIdx.ix3 p k q)).toInt.toNat (S16x128x128x64.size a - G.sliceSizes a) := by
    intro a ha q hq
    unfold GatherDims.start
    rw [dif_pos ha, hq]
  have hbatch : ∀ a : Fin 4, G.batchCoord (ValueIdx.ix3 p k c) a = 0 := fun a => GatherDims.batchCoord_eq_zero _ _ _ List.not_mem_nil
  have hoff : ∀ a : Fin 4, a ∈ G.collapsedSliceDims → G.offCoord (ValueIdx.ix3 p k c) a = 0 := fun a h =>
    GatherDims.offCoord_eq_zero _ _ _ (fun h' => ((GatherDims.mem_sKept _ _).mp h').1 h)
  match a with
  | ⟨0, _⟩ =>
    show G.start (ValueIdx.ix3 p k c) idx (0 : Fin 4) + G.batchCoord (ValueIdx.ix3 p k c) (0 : Fin 4) + G.offCoord (ValueIdx.ix3 p k c) (0 : Fin 4) = b.val
    rw [hbatch, hoff _ (by decide), key 0 (by decide) 0 (by funext q; refine Fin.ext ?_; match q with | ⟨0, _⟩ => rfl | ⟨1, _⟩ => rfl | ⟨2, _⟩ => rfl), h0]
    show min b.val 15 + 0 + 0 = b.val
    omega
  | ⟨1, _⟩ =>
    show G.start (ValueIdx.ix3 p k c) idx (1 : Fin 4) + G.batchCoord (ValueIdx.ix3 p k c) (1 : Fin 4) + G.offCoord (ValueIdx.ix3 p k c) (1 : Fin 4) = u.val
    rw [hbatch, hoff _ (by decide), key 1 (by decide) 1 (by funext q; refine Fin.ext ?_; match q with | ⟨0, _⟩ => rfl | ⟨1, _⟩ => rfl | ⟨2, _⟩ => rfl), h1]
    show min u.val 127 + 0 + 0 = u.val
    omega
  | ⟨2, _⟩ =>
    show G.start (ValueIdx.ix3 p k c) idx (2 : Fin 4) + G.batchCoord (ValueIdx.ix3 p k c) (2 : Fin 4) + G.offCoord (ValueIdx.ix3 p k c) (2 : Fin 4) = v.val
    rw [hbatch, hoff _ (by decide), key 2 (by decide) 2 (by funext q; refine Fin.ext ?_; match q with | ⟨0, _⟩ => rfl | ⟨1, _⟩ => rfl | ⟨2, _⟩ => rfl), h2]
    show min v.val 127 + 0 + 0 = v.val
    omega
  | ⟨3, _⟩ =>
    show G.start (ValueIdx.ix3 p k c) idx (3 : Fin 4) + G.batchCoord (ValueIdx.ix3 p k c) (3 : Fin 4) + G.offCoord (ValueIdx.ix3 p k c) (3 : Fin 4) = c.val
    rw [hbatch]
    have hs : G.start (ValueIdx.ix3 p k c) idx (3 : Fin 4) = 0 := by
      unfold GatherDims.start
      rw [dif_neg (by decide)]
    have ho : G.offCoord (ValueIdx.ix3 p k c) (3 : Fin 4) = c.val := by
      unfold GatherDims.offCoord
      rw [dif_pos (by decide)]
      rfl
    rw [hs, ho]; omega

/-- Three columns joined, read at one of them. -/
theorem cat_at (a0 a1 a2 : IVec S4096x129x1 32) (p : Fin 4096) (k : Fin 129) :
    concatenate S4096x129x3 2 [⟨S4096x129x1, a0⟩, ⟨S4096x129x1, a1⟩, ⟨S4096x129x1, a2⟩] concatenates_S4096x129x1_S4096x129x1_S4096x129x1_S4096x129x3_d2 (ValueIdx.ix3 p k (0 : Fin 3)) = a0 (ValueIdx.ix3 p k (0 : Fin 1))
    ∧ concatenate S4096x129x3 2 [⟨S4096x129x1, a0⟩, ⟨S4096x129x1, a1⟩, ⟨S4096x129x1, a2⟩] concatenates_S4096x129x1_S4096x129x1_S4096x129x1_S4096x129x3_d2 (ValueIdx.ix3 p k (1 : Fin 3)) = a1 (ValueIdx.ix3 p k (0 : Fin 1))
    ∧ concatenate S4096x129x3 2 [⟨S4096x129x1, a0⟩, ⟨S4096x129x1, a1⟩, ⟨S4096x129x1, a2⟩] concatenates_S4096x129x1_S4096x129x1_S4096x129x1_S4096x129x3_d2 (ValueIdx.ix3 p k (2 : Fin 3)) = a2 (ValueIdx.ix3 p k (0 : Fin 1)) := by
  refine ⟨?_, ?_, ?_⟩
  · exact concatenate_apply_piece (t := S4096x129x3) (2 : Fin 3) [⟨S4096x129x1, a0⟩, ⟨S4096x129x1, a1⟩, ⟨S4096x129x1, a2⟩] _ (ValueIdx.ix3 p k (0 : Fin 3)) 0 (by simp) S4096x129x1 a0 rfl rfl 0 rfl (ValueIdx.ix3 p k (0 : Fin 1))
      (fun b hb => by match b with | ⟨0, _⟩ => rfl | ⟨1, _⟩ => rfl | ⟨2, _⟩ => exact absurd rfl hb) rfl
  · exact concatenate_apply_piece (t := S4096x129x3) (2 : Fin 3) [⟨S4096x129x1, a0⟩, ⟨S4096x129x1, a1⟩, ⟨S4096x129x1, a2⟩] _ (ValueIdx.ix3 p k (1 : Fin 3)) 1 (by simp) S4096x129x1 a1 rfl rfl 1 rfl (ValueIdx.ix3 p k (0 : Fin 1))
      (fun b hb => by match b with | ⟨0, _⟩ => rfl | ⟨1, _⟩ => rfl | ⟨2, _⟩ => exact absurd rfl hb) rfl
  · exact concatenate_apply_piece (t := S4096x129x3) (2 : Fin 3) [⟨S4096x129x1, a0⟩, ⟨S4096x129x1, a1⟩, ⟨S4096x129x1, a2⟩] _ (ValueIdx.ix3 p k (2 : Fin 3)) 2 (by simp) S4096x129x1 a2 rfl rfl 2 rfl (ValueIdx.ix3 p k (0 : Fin 1))
      (fun b hb => by match b with | ⟨0, _⟩ => rfl | ⟨1, _⟩ => rfl | ⟨2, _⟩ => exact absurd rfl hb) rfl

variable (x0 : FVec Ideal S16x64x128x128 .f32) (x1 : FVec Ideal S4096x2 .f32) (x2 : FVec Ideal S4096x128x2 .f32) (x3 : IVec S4096 32)

/-- The first tap's image index. -/
theorem img0 (p : Fin 4096) (k : Fin 129) (hb : (x3 (ValueIdx.ix1 p)).toNat < 16) :
    val_main_v76 (F := Ideal) x3 (ValueIdx.ix3 p k (0 : Fin 1)) = x3 (ValueIdx.ix1 p) := by
  simp only [val_main_v76_apply, val_main_v75_apply, val_main_v64_apply, val_main_v63_apply, val_main_v62_apply, val_main_c_23_apply, val_main_v61_apply, val_main_v60_apply, val_main_c_22_apply, val_main_v43_apply]
  rw [show idx_main_v43 (idx_main_v75 (idx_main_v76 (ValueIdx.ix3 p k (0 : Fin 1)))) = ValueIdx.ix1 p from funext fun a => by match a with | ⟨0, _⟩ => rfl]
  exact wrap_word (x3 (ValueIdx.ix1 p)) hb

/-- The first tap's row index. -/
theorem row0 (p : Fin 4096) (k : Fin 129) (y : ℝ) (hy : Pix y) (hY : val_main_v32 (F := Ideal) x1 x2 (ValueIdx.ix2 p k) = (y : EReal)) :
    val_main_v77 (F := Ideal) x1 x2 (ValueIdx.ix3 p k (0 : Fin 1)) = clip y := by
  simp only [val_main_v77_apply, val_main_v69_apply, val_main_v68_apply, val_main_v67_apply, val_main_c_25_apply, val_main_v59_apply, val_main_v58_apply, val_main_call1_v4_apply, val_main_call1_v3_apply, val_main_c_21_apply, val_main_call1_v2_apply, val_main_call1_v1_apply, val_main_call1_v0_apply, val_main_c_20_apply, val_main_v66_apply, val_main_v65_apply, val_main_c_24_apply]
  rw [show idx_main_v77 (ValueIdx.ix3 p k (0 : Fin 1)) = ValueIdx.ix2 p k from funext fun a => by match a with | ⟨0, _⟩ => rfl | ⟨1, _⟩ => rfl, hY]
  exact clip_word y hy

/-- The first tap's column index. -/
theorem col0 (p : Fin 4096) (k : Fin 129) (x : ℝ) (hx : Pix x) (hX : val_main_v31 (F := Ideal) x1 x2 (ValueIdx.ix2 p k) = (x : EReal)) :
    val_main_v78 (F := Ideal) x1 x2 (ValueIdx.ix3 p k (0 : Fin 1)) = clip x := by
  simp only [val_main_v78_apply, val_main_v74_apply, val_main_v73_apply, val_main_v72_apply, val_main_c_27_apply, val_main_v57_apply, val_main_v56_apply, val_main_call0_v4_apply, val_main_call0_v3_apply, val_main_c_19_apply, val_main_call0_v2_apply, val_main_call0_v1_apply, val_main_call0_v0_apply, val_main_c_apply, val_main_v71_apply, val_main_v70_apply, val_main_c_26_apply]
  rw [show idx_main_v78 (ValueIdx.ix3 p k (0 : Fin 1)) = ValueIdx.ix2 p k from funext fun a => by match a with | ⟨0, _⟩ => rfl | ⟨1, _⟩ => rfl, hX]
  exact clip_word x hx

/-- The first tap's validity. -/
theorem valid0 (p : Fin 4096) (k : Fin 129) (x y : ℝ) (hx : Pix x) (hy : Pix y) (hX : val_main_v31 (F := Ideal) x1 x2 (ValueIdx.ix2 p k) = (x : EReal))
    (hY : val_main_v32 (F := Ideal) x1 x2 (ValueIdx.ix2 p k) = (y : EReal)) :
    val_main_v81 (F := Ideal) x1 x2 (ValueIdx.ix2 p k) = (ok x y : EReal) := by
  simp only [val_main_v81_apply, val_main_v55_apply, val_main_v54_apply, val_main_v53_apply, val_main_cst_18_apply, val_main_v52_apply, val_main_v51_apply, val_main_v50_apply, val_main_cst_17_apply, val_main_v49_apply, val_main_v48_apply, val_main_v47_apply, val_main_cst_16_apply, val_main_v46_apply, val_main_v45_apply, val_main_cst_15_apply]
  rw [hX, hY]
  exact valid_word x y hx hy

/-- The first tap: the feature at the clipped pixel times its weight. -/
theorem tap0 (f : S16x64x128x128.Idx → ℝ) (hf : ∀ y, x0 y = (f y : EReal)) (p : Fin 4096) (k : Fin 129) (c : Fin 64)
    (hb : (x3 (ValueIdx.ix1 p)).toNat < 16) (x y w : ℝ) (hx : Pix x) (hy : Pix y)
    (hX : val_main_v31 (F := Ideal) x1 x2 (ValueIdx.ix2 p k) = (x : EReal)) (hY : val_main_v32 (F := Ideal) x1 x2 (ValueIdx.ix2 p k) = (y : EReal))
    (hW : val_main_v44 (F := Ideal) x1 x2 (ValueIdx.ix2 p k) = (w : EReal)) :
    val_main_v85 (F := Ideal) x0 x1 x2 x3 (ValueIdx.ix3 p k c)
      = ((f (ValueIdx.ix4 ⟨(x3 (ValueIdx.ix1 p)).toNat, hb⟩ c (pix y) (pix x)) * (w * ok x y) : ℝ) : EReal) := by
  have hc := cat_at (val_main_v76 (F := Ideal) x3) (val_main_v77 (F := Ideal) x1 x2) (val_main_v78 (F := Ideal) x1 x2) p k
  have hg : val_main_v80 (F := Ideal) x0 x1 x2 x3 (ValueIdx.ix3 p k c) = (f (ValueIdx.ix4 ⟨(x3 (ValueIdx.ix1 p)).toNat, hb⟩ c (pix y) (pix x)) : EReal) := by
    refine (gather_at (val_main_v2 (F := Ideal) x0) (val_main_v79 (F := Ideal) x1 x2 x3) p k c ⟨(x3 (ValueIdx.ix1 p)).toNat, hb⟩ (pix y) (pix x) ?_ ?_ ?_).trans ?_
    · refine (congrArg (fun z : BitVec 32 => z.toInt.toNat) (hc.1.trans (img0 x3 p k hb))).trans ?_
      show ((x3 (ValueIdx.ix1 p)).toInt).toNat = _
      rw [BitVec.toInt_eq_toNat_of_lt (by omega)]; rfl
    · exact (congrArg (fun z : BitVec 32 => z.toInt.toNat) (hc.2.1.trans (row0 x1 x2 p k y hy hY))).trans (clip_pix y)
    · exact (congrArg (fun z : BitVec 32 => z.toInt.toNat) (hc.2.2.trans (col0 x1 x2 p k x hx hX))).trans (clip_pix x)
    · rw [val_main_v2_apply, ← hf]
      exact congrArg x0 (funext fun a => by match a with | ⟨0, _⟩ => rfl | ⟨1, _⟩ => rfl | ⟨2, _⟩ => rfl | ⟨3, _⟩ => rfl)
  have hw : val_main_v84 (F := Ideal) x1 x2 (ValueIdx.ix3 p k c) = ((w * ok x y : ℝ) : EReal) := by
    rw [val_main_v84_apply, val_main_v83_apply, show idx_main_v83 (idx_main_v84 (ValueIdx.ix3 p k c)) = ValueIdx.ix2 p k from funext fun a => by match a with | ⟨0, _⟩ => rfl | ⟨1, _⟩ => rfl,
      val_main_v82_apply, hW, valid0 x1 x2 p k x y hx hy hX hY]
    exact (EReal.coe_mul _ _).symm
  rw [val_main_v85_apply, hg, hw]
  exact (EReal.coe_mul _ _).symm

/-- The second tap's image index. -/
theorem img1 (p : Fin 4096) (k : Fin 129) (hb : (x3 (ValueIdx.ix1 p)).toNat < 16) :
    val_main_v118 (F := Ideal) x3 (ValueIdx.ix3 p k (0 : Fin 1)) = x3 (ValueIdx.ix1 p) := by
  simp only [val_main_v118_apply, val_main_v117_apply, val_main_v106_apply, val_main_v105_apply, val_main_v104_apply, val_main_c_37_apply, val_main_v103_apply, val_main_v102_apply, val_main_c_36_apply, val_main_v43_apply]
  rw [show idx_main_v43 (idx_main_v117 (idx_main_v118 (ValueIdx.ix3 p k (0 : Fin 1)))) = ValueIdx.ix1 p from funext fun a => by match a with | ⟨0, _⟩ => rfl]
  exact wrap_word (x3 (ValueIdx.ix1 p)) hb

/-- The second tap's row index. -/
theorem row1 (p : Fin 4096) (k : Fin 129) (y : ℝ) (hy : Pix y) (hY : val_main_v32 (F := Ideal) x1 x2 (ValueIdx.ix2 p k) = (y : EReal)) :
    val_main_v119 (F := Ideal) x1 x2 (ValueIdx.ix3 p k (0 : Fin 1)) = clip y := by
  simp only [val_main_v119_apply, val_main_v111_apply, val_main_v110_apply, val_main_v109_apply, val_main_c_39_apply, val_main_v101_apply, val_main_v100_apply, val_main_call3_v4_apply, val_main_call3_v3_apply, val_main_c_35_apply, val_main_call3_v2_apply, val_main_call3_v1_apply, val_main_call3_v0_apply, val_main_c_34_apply, val_main_v108_apply, val_main_v107_apply, val_main_c_38_apply]
  rw [show idx_main_v119 (ValueIdx.ix3 p k (0 : Fin 1)) = ValueIdx.ix2 p k from funext fun a => by match a with | ⟨0, _⟩ => rfl | ⟨1, _⟩ => rfl, hY]
  exact clip_word y hy

/-- The second tap's column index. -/
theorem col1 (p : Fin 4096) (k : Fin 129) (x : ℝ) (hx : Pix x) (hX : val_main_v34 (F := Ideal) x1 x2 (ValueIdx.ix2 p k) = (x : EReal)) :
    val_main_v120 (F := Ideal) x1 x2 (ValueIdx.ix3 p k (0 : Fin 1)) = clip x := by
  simp only [val_main_v120_apply, val_main_v116_apply, val_main_v99_apply, val_main_v98_apply, val_main_call2_v4_apply, val_main_call2_v3_apply, val_main_c_33_apply, val_main_call2_v2_apply, val_main_call2_v1_apply, val_main_call2_v0_apply, val_main_c_32_apply, val_main_v115_apply, val_main_v114_apply, val_main_c_41_apply, val_main_v113_apply, val_main_v112_apply, val_main_c_40_apply]
  rw [show idx_main_v120 (ValueIdx.ix3 p k (0 : Fin 1)) = ValueIdx.ix2 p k from funext fun a => by match a with | ⟨0, _⟩ => rfl | ⟨1, _⟩ => rfl, hX]
  exact clip_word x hx

/-- The second tap's validity. -/
theorem valid1 (p : Fin 4096) (k : Fin 129) (x y : ℝ) (hx : Pix x) (hy : Pix y) (hX : val_main_v34 (F := Ideal) x1 x2 (ValueIdx.ix2 p k) = (x : EReal))
    (hY : val_main_v32 (F := Ideal) x1 x2 (ValueIdx.ix2 p k) = (y : EReal)) :
    val_main_v123 (F := Ideal) x1 x2 (ValueIdx.ix2 p k) = (ok x y : EReal) := by
  simp only [val_main_v123_apply, val_main_v97_apply, val_main_v96_apply, val_main_v95_apply, val_main_cst_31_apply, val_main_v94_apply, val_main_v93_apply, val_main_v92_apply, val_main_cst_30_apply, val_main_v91_apply, val_main_v90_apply, val_main_v89_apply, val_main_cst_29_apply, val_main_v88_apply, val_main_v87_apply, val_main_cst_28_apply]
  rw [hX, hY]
  exact valid_word x y hx hy

/-- The second tap: the feature at the clipped pixel times its weight. -/
theorem tap1 (f : S16x64x128x128.Idx → ℝ) (hf : ∀ y, x0 y = (f y : EReal)) (p : Fin 4096) (k : Fin 129) (c : Fin 64)
    (hb : (x3 (ValueIdx.ix1 p)).toNat < 16) (x y w : ℝ) (hx : Pix x) (hy : Pix y)
    (hX : val_main_v34 (F := Ideal) x1 x2 (ValueIdx.ix2 p k) = (x : EReal)) (hY : val_main_v32 (F := Ideal) x1 x2 (ValueIdx.ix2 p k) = (y : EReal))
    (hW : val_main_v86 (F := Ideal) x1 x2 (ValueIdx.ix2 p k) = (w : EReal)) :
    val_main_v127 (F := Ideal) x0 x1 x2 x3 (ValueIdx.ix3 p k c)
      = ((f (ValueIdx.ix4 ⟨(x3 (ValueIdx.ix1 p)).toNat, hb⟩ c (pix y) (pix x)) * (w * ok x y) : ℝ) : EReal) := by
  have hc := cat_at (val_main_v118 (F := Ideal) x3) (val_main_v119 (F := Ideal) x1 x2) (val_main_v120 (F := Ideal) x1 x2) p k
  have hg : val_main_v122 (F := Ideal) x0 x1 x2 x3 (ValueIdx.ix3 p k c) = (f (ValueIdx.ix4 ⟨(x3 (ValueIdx.ix1 p)).toNat, hb⟩ c (pix y) (pix x)) : EReal) := by
    refine (gather_at (val_main_v2 (F := Ideal) x0) (val_main_v121 (F := Ideal) x1 x2 x3) p k c ⟨(x3 (ValueIdx.ix1 p)).toNat, hb⟩ (pix y) (pix x) ?_ ?_ ?_).trans ?_
    · refine (congrArg (fun z : BitVec 32 => z.toInt.toNat) (hc.1.trans (img1 x3 p k hb))).trans ?_
      show ((x3 (ValueIdx.ix1 p)).toInt).toNat = _
      rw [BitVec.toInt_eq_toNat_of_lt (by omega)]; rfl
    · exact (congrArg (fun z : BitVec 32 => z.toInt.toNat) (hc.2.1.trans (row1 x1 x2 p k y hy hY))).trans (clip_pix y)
    · exact (congrArg (fun z : BitVec 32 => z.toInt.toNat) (hc.2.2.trans (col1 x1 x2 p k x hx hX))).trans (clip_pix x)
    · rw [val_main_v2_apply, ← hf]
      exact congrArg x0 (funext fun a => by match a with | ⟨0, _⟩ => rfl | ⟨1, _⟩ => rfl | ⟨2, _⟩ => rfl | ⟨3, _⟩ => rfl)
  have hw : val_main_v126 (F := Ideal) x1 x2 (ValueIdx.ix3 p k c) = ((w * ok x y : ℝ) : EReal) := by
    rw [val_main_v126_apply, val_main_v125_apply, show idx_main_v125 (idx_main_v126 (ValueIdx.ix3 p k c)) = ValueIdx.ix2 p k from funext fun a => by match a with | ⟨0, _⟩ => rfl | ⟨1, _⟩ => rfl,
      val_main_v124_apply, hW, valid1 x1 x2 p k x y hx hy hX hY]
    exact (EReal.coe_mul _ _).symm
  rw [val_main_v127_apply, hg, hw]
  exact (EReal.coe_mul _ _).symm

/-- The third tap's image index. -/
theorem img2 (p : Fin 4096) (k : Fin 129) (hb : (x3 (ValueIdx.ix1 p)).toNat < 16) :
    val_main_v161 (F := Ideal) x3 (ValueIdx.ix3 p k (0 : Fin 1)) = x3 (ValueIdx.ix1 p) := by
  simp only [val_main_v161_apply, val_main_v160_apply, val_main_v149_apply, val_main_v148_apply, val_main_v147_apply, val_main_c_51_apply, val_main_v146_apply, val_main_v145_apply, val_main_c_50_apply, val_main_v43_apply]
  rw [show idx_main_v43 (idx_main_v160 (idx_main_v161 (ValueIdx.ix3 p k (0 : Fin 1)))) = ValueIdx.ix1 p from funext fun a => by match a with | ⟨0, _⟩ => rfl]
  exact wrap_word (x3 (ValueIdx.ix1 p)) hb

/-- The third tap's row index. -/
theorem row2 (p : Fin 4096) (k : Fin 129) (y : ℝ) (hy : Pix y) (hY : val_main_v36 (F := Ideal) x1 x2 (ValueIdx.ix2 p k) = (y : EReal)) :
    val_main_v162 (F := Ideal) x1 x2 (ValueIdx.ix3 p k (0 : Fin 1)) = clip y := by
  simp only [val_main_v162_apply, val_main_v154_apply, val_main_v153_apply, val_main_v152_apply, val_main_c_53_apply, val_main_v144_apply, val_main_v143_apply, val_main_call5_v4_apply, val_main_call5_v3_apply, val_main_c_49_apply, val_main_call5_v2_apply, val_main_call5_v1_apply, val_main_call5_v0_apply, val_main_c_48_apply, val_main_v151_apply, val_main_v150_apply, val_main_c_52_apply]
  rw [show idx_main_v162 (ValueIdx.ix3 p k (0 : Fin 1)) = ValueIdx.ix2 p k from funext fun a => by match a with | ⟨0, _⟩ => rfl | ⟨1, _⟩ => rfl, hY]
  exact clip_word y hy

/-- The third tap's column index. -/
theorem col2 (p : Fin 4096) (k : Fin 129) (x : ℝ) (hx : Pix x) (hX : val_main_v31 (F := Ideal) x1 x2 (ValueIdx.ix2 p k) = (x : EReal)) :
    val_main_v163 (F := Ideal) x1 x2 (ValueIdx.ix3 p k (0 : Fin 1)) = clip x := by
  simp only [val_main_v163_apply, val_main_v159_apply, val_main_v158_apply, val_main_v157_apply, val_main_c_55_apply, val_main_v142_apply, val_main_v141_apply, val_main_call4_v4_apply, val_main_call4_v3_apply, val_main_c_47_apply, val_main_call4_v2_apply, val_main_call4_v1_apply, val_main_call4_v0_apply, val_main_c_46_apply, val_main_v156_apply, val_main_v155_apply, val_main_c_54_apply]
  rw [show idx_main_v163 (ValueIdx.ix3 p k (0 : Fin 1)) = ValueIdx.ix2 p k from funext fun a => by match a with | ⟨0, _⟩ => rfl | ⟨1, _⟩ => rfl, hX]
  exact clip_word x hx

/-- The third tap's validity. -/
theorem valid2 (p : Fin 4096) (k : Fin 129) (x y : ℝ) (hx : Pix x) (hy : Pix y) (hX : val_main_v31 (F := Ideal) x1 x2 (ValueIdx.ix2 p k) = (x : EReal))
    (hY : val_main_v36 (F := Ideal) x1 x2 (ValueIdx.ix2 p k) = (y : EReal)) :
    val_main_v166 (F := Ideal) x1 x2 (ValueIdx.ix2 p k) = (ok x y : EReal) := by
  simp only [val_main_v166_apply, val_main_v140_apply, val_main_v139_apply, val_main_v138_apply, val_main_cst_45_apply, val_main_v137_apply, val_main_v136_apply, val_main_v135_apply, val_main_cst_44_apply, val_main_v134_apply, val_main_v133_apply, val_main_v132_apply, val_main_cst_43_apply, val_main_v131_apply, val_main_v130_apply, val_main_cst_42_apply]
  rw [hX, hY]
  exact valid_word x y hx hy

/-- The third tap: the feature at the clipped pixel times its weight. -/
theorem tap2 (f : S16x64x128x128.Idx → ℝ) (hf : ∀ y, x0 y = (f y : EReal)) (p : Fin 4096) (k : Fin 129) (c : Fin 64)
    (hb : (x3 (ValueIdx.ix1 p)).toNat < 16) (x y w : ℝ) (hx : Pix x) (hy : Pix y)
    (hX : val_main_v31 (F := Ideal) x1 x2 (ValueIdx.ix2 p k) = (x : EReal)) (hY : val_main_v36 (F := Ideal) x1 x2 (ValueIdx.ix2 p k) = (y : EReal))
    (hW : val_main_v129 (F := Ideal) x1 x2 (ValueIdx.ix2 p k) = (w : EReal)) :
    val_main_v170 (F := Ideal) x0 x1 x2 x3 (ValueIdx.ix3 p k c)
      = ((f (ValueIdx.ix4 ⟨(x3 (ValueIdx.ix1 p)).toNat, hb⟩ c (pix y) (pix x)) * (w * ok x y) : ℝ) : EReal) := by
  have hc := cat_at (val_main_v161 (F := Ideal) x3) (val_main_v162 (F := Ideal) x1 x2) (val_main_v163 (F := Ideal) x1 x2) p k
  have hg : val_main_v165 (F := Ideal) x0 x1 x2 x3 (ValueIdx.ix3 p k c) = (f (ValueIdx.ix4 ⟨(x3 (ValueIdx.ix1 p)).toNat, hb⟩ c (pix y) (pix x)) : EReal) := by
    refine (gather_at (val_main_v2 (F := Ideal) x0) (val_main_v164 (F := Ideal) x1 x2 x3) p k c ⟨(x3 (ValueIdx.ix1 p)).toNat, hb⟩ (pix y) (pix x) ?_ ?_ ?_).trans ?_
    · refine (congrArg (fun z : BitVec 32 => z.toInt.toNat) (hc.1.trans (img2 x3 p k hb))).trans ?_
      show ((x3 (ValueIdx.ix1 p)).toInt).toNat = _
      rw [BitVec.toInt_eq_toNat_of_lt (by omega)]; rfl
    · exact (congrArg (fun z : BitVec 32 => z.toInt.toNat) (hc.2.1.trans (row2 x1 x2 p k y hy hY))).trans (clip_pix y)
    · exact (congrArg (fun z : BitVec 32 => z.toInt.toNat) (hc.2.2.trans (col2 x1 x2 p k x hx hX))).trans (clip_pix x)
    · rw [val_main_v2_apply, ← hf]
      exact congrArg x0 (funext fun a => by match a with | ⟨0, _⟩ => rfl | ⟨1, _⟩ => rfl | ⟨2, _⟩ => rfl | ⟨3, _⟩ => rfl)
  have hw : val_main_v169 (F := Ideal) x1 x2 (ValueIdx.ix3 p k c) = ((w * ok x y : ℝ) : EReal) := by
    rw [val_main_v169_apply, val_main_v168_apply, show idx_main_v168 (idx_main_v169 (ValueIdx.ix3 p k c)) = ValueIdx.ix2 p k from funext fun a => by match a with | ⟨0, _⟩ => rfl | ⟨1, _⟩ => rfl,
      val_main_v167_apply, hW, valid2 x1 x2 p k x y hx hy hX hY]
    exact (EReal.coe_mul _ _).symm
  rw [val_main_v170_apply, hg, hw]
  exact (EReal.coe_mul _ _).symm

/-- The fourth tap's image index. -/
theorem img3 (p : Fin 4096) (k : Fin 129) (hb : (x3 (ValueIdx.ix1 p)).toNat < 16) :
    val_main_v204 (F := Ideal) x3 (ValueIdx.ix3 p k (0 : Fin 1)) = x3 (ValueIdx.ix1 p) := by
  simp only [val_main_v204_apply, val_main_v203_apply, val_main_v192_apply, val_main_v191_apply, val_main_v190_apply, val_main_c_65_apply, val_main_v189_apply, val_main_v188_apply, val_main_c_64_apply, val_main_v43_apply]
  rw [show idx_main_v43 (idx_main_v203 (idx_main_v204 (ValueIdx.ix3 p k (0 : Fin 1)))) = ValueIdx.ix1 p from funext fun a => by match a with | ⟨0, _⟩ => rfl]
  exact wrap_word (x3 (ValueIdx.ix1 p)) hb

/-- The fourth tap's row index. -/
theorem row3 (p : Fin 4096) (k : Fin 129) (y : ℝ) (hy : Pix y) (hY : val_main_v36 (F := Ideal) x1 x2 (ValueIdx.ix2 p k) = (y : EReal)) :
    val_main_v205 (F := Ideal) x1 x2 (ValueIdx.ix3 p k (0 : Fin 1)) = clip y := by
  simp only [val_main_v205_apply, val_main_v197_apply, val_main_v196_apply, val_main_v195_apply, val_main_c_67_apply, val_main_v187_apply, val_main_v186_apply, val_main_call7_v4_apply, val_main_call7_v3_apply, val_main_c_63_apply, val_main_call7_v2_apply, val_main_call7_v1_apply, val_main_call7_v0_apply, val_main_c_62_apply, val_main_v194_apply, val_main_v193_apply, val_main_c_66_apply]
  rw [show idx_main_v205 (ValueIdx.ix3 p k (0 : Fin 1)) = ValueIdx.ix2 p k from funext fun a => by match a with | ⟨0, _⟩ => rfl | ⟨1, _⟩ => rfl, hY]
  exact clip_word y hy

/-- The fourth tap's column index. -/
theorem col3 (p : Fin 4096) (k : Fin 129) (x : ℝ) (hx : Pix x) (hX : val_main_v34 (F := Ideal) x1 x2 (ValueIdx.ix2 p k) = (x : EReal)) :
    val_main_v206 (F := Ideal) x1 x2 (ValueIdx.ix3 p k (0 : Fin 1)) = clip x := by
  simp only [val_main_v206_apply, val_main_v202_apply, val_main_v201_apply, val_main_v200_apply, val_main_c_69_apply, val_main_v185_apply, val_main_v184_apply, val_main_call6_v4_apply, val_main_call6_v3_apply, val_main_c_61_apply, val_main_call6_v2_apply, val_main_call6_v1_apply, val_main_call6_v0_apply, val_main_c_60_apply, val_main_v199_apply, val_main_v198_apply, val_main_c_68_apply]
  rw [show idx_main_v206 (ValueIdx.ix3 p k (0 : Fin 1)) = ValueIdx.ix2 p k from funext fun a => by match a with | ⟨0, _⟩ => rfl | ⟨1, _⟩ => rfl, hX]
  exact clip_word x hx

/-- The fourth tap's validity. -/
theorem valid3 (p : Fin 4096) (k : Fin 129) (x y : ℝ) (hx : Pix x) (hy : Pix y) (hX : val_main_v34 (F := Ideal) x1 x2 (ValueIdx.ix2 p k) = (x : EReal))
    (hY : val_main_v36 (F := Ideal) x1 x2 (ValueIdx.ix2 p k) = (y : EReal)) :
    val_main_v209 (F := Ideal) x1 x2 (ValueIdx.ix2 p k) = (ok x y : EReal) := by
  simp only [val_main_v209_apply, val_main_v183_apply, val_main_v182_apply, val_main_v181_apply, val_main_cst_59_apply, val_main_v180_apply, val_main_v179_apply, val_main_v178_apply, val_main_cst_58_apply, val_main_v177_apply, val_main_v176_apply, val_main_v175_apply, val_main_cst_57_apply, val_main_v174_apply, val_main_v173_apply, val_main_cst_56_apply]
  rw [hX, hY]
  exact valid_word x y hx hy

/-- The fourth tap: the feature at the clipped pixel times its weight. -/
theorem tap3 (f : S16x64x128x128.Idx → ℝ) (hf : ∀ y, x0 y = (f y : EReal)) (p : Fin 4096) (k : Fin 129) (c : Fin 64)
    (hb : (x3 (ValueIdx.ix1 p)).toNat < 16) (x y w : ℝ) (hx : Pix x) (hy : Pix y)
    (hX : val_main_v34 (F := Ideal) x1 x2 (ValueIdx.ix2 p k) = (x : EReal)) (hY : val_main_v36 (F := Ideal) x1 x2 (ValueIdx.ix2 p k) = (y : EReal))
    (hW : val_main_v172 (F := Ideal) x1 x2 (ValueIdx.ix2 p k) = (w : EReal)) :
    val_main_v213 (F := Ideal) x0 x1 x2 x3 (ValueIdx.ix3 p k c)
      = ((f (ValueIdx.ix4 ⟨(x3 (ValueIdx.ix1 p)).toNat, hb⟩ c (pix y) (pix x)) * (w * ok x y) : ℝ) : EReal) := by
  have hc := cat_at (val_main_v204 (F := Ideal) x3) (val_main_v205 (F := Ideal) x1 x2) (val_main_v206 (F := Ideal) x1 x2) p k
  have hg : val_main_v208 (F := Ideal) x0 x1 x2 x3 (ValueIdx.ix3 p k c) = (f (ValueIdx.ix4 ⟨(x3 (ValueIdx.ix1 p)).toNat, hb⟩ c (pix y) (pix x)) : EReal) := by
    refine (gather_at (val_main_v2 (F := Ideal) x0) (val_main_v207 (F := Ideal) x1 x2 x3) p k c ⟨(x3 (ValueIdx.ix1 p)).toNat, hb⟩ (pix y) (pix x) ?_ ?_ ?_).trans ?_
    · refine (congrArg (fun z : BitVec 32 => z.toInt.toNat) (hc.1.trans (img3 x3 p k hb))).trans ?_
      show ((x3 (ValueIdx.ix1 p)).toInt).toNat = _
      rw [BitVec.toInt_eq_toNat_of_lt (by omega)]; rfl
    · exact (congrArg (fun z : BitVec 32 => z.toInt.toNat) (hc.2.1.trans (row3 x1 x2 p k y hy hY))).trans (clip_pix y)
    · exact (congrArg (fun z : BitVec 32 => z.toInt.toNat) (hc.2.2.trans (col3 x1 x2 p k x hx hX))).trans (clip_pix x)
    · rw [val_main_v2_apply, ← hf]
      exact congrArg x0 (funext fun a => by match a with | ⟨0, _⟩ => rfl | ⟨1, _⟩ => rfl | ⟨2, _⟩ => rfl | ⟨3, _⟩ => rfl)
  have hw : val_main_v212 (F := Ideal) x1 x2 (ValueIdx.ix3 p k c) = ((w * ok x y : ℝ) : EReal) := by
    rw [val_main_v212_apply, val_main_v211_apply, show idx_main_v211 (idx_main_v212 (ValueIdx.ix3 p k c)) = ValueIdx.ix2 p k from funext fun a => by match a with | ⟨0, _⟩ => rfl | ⟨1, _⟩ => rfl,
      val_main_v210_apply, hW, valid3 x1 x2 p k x y hx hy hX hY]
    exact (EReal.coe_mul _ _).symm
  rw [val_main_v213_apply, hg, hw]
  exact (EReal.coe_mul _ _).symm

end Cert.RefTap
-- ==== Proof.RefPoint.lean ====
/- The reference's sample at a point and a channel: coordinates, floors, weights, and the four taps' sum. -/
module

public import proofs.«01_k».proof.Proof.RefTap

@[expose] public section

noncomputable section

namespace Cert.RefPoint

open Cert.ReferenceIdeal Cert.ReferenceIdeal.Gen Cert.ReferenceIdeal.Read Cert.Tap Cert.Sample
open Idealize.ShloMosaic Idealize.ShloMosaic.TcCoe Idealize.ShloMosaic.StableHlo

variable (x0 : FVec Ideal S16x64x128x128 .f32) (x1 : FVec Ideal S4096x2 .f32) (x2 : FVec Ideal S4096x128x2 .f32) (x3 : IVec S4096 32)

/-- The joined points at zero are the centre points. -/
theorem pts_zero (p : Fin 4096) (d : Fin 2) :
    val_main_v1 (F := Ideal) x1 x2 (ValueIdx.ix3 p (0 : Fin 129) d) = x1 (ValueIdx.ix2 p d) := by
  unfold val_main_v1
  refine (concatenate_pair_apply_left (t := S4096x129x2) (1 : Fin 3) (val_main_v0 (F := Ideal) x1) x2 _ (ValueIdx.ix3 p (0 : Fin 129) d) rfl
    (ValueIdx.ix3 p (0 : Fin 1) d) (fun b => by match b with | ⟨0, _⟩ => rfl | ⟨1, _⟩ => rfl | ⟨2, _⟩ => rfl)).trans ?_
  rw [val_main_v0_apply]
  exact congrArg x1 (funext fun a => by match a with | ⟨0, _⟩ => rfl | ⟨1, _⟩ => rfl)

/-- The joined points past zero are the initial points. -/
theorem pts_succ (p : Fin 4096) (k : Fin 128) (d : Fin 2) :
    val_main_v1 (F := Ideal) x1 x2 (ValueIdx.ix3 p (k.succ : Fin 129) d) = x2 (ValueIdx.ix3 p k d) := by
  unfold val_main_v1
  exact concatenate_pair_apply_right (t := S4096x129x2) (1 : Fin 3) (val_main_v0 (F := Ideal) x1) x2 _ (ValueIdx.ix3 p (k.succ : Fin 129) d) rfl rfl
    (ValueIdx.ix3 p k d) (fun b hb => by match b with | ⟨0, _⟩ => rfl | ⟨1, _⟩ => exact absurd rfl hb | ⟨2, _⟩ => rfl)
    (by show k.val + 1 = k.val + 1; rfl)

/-- The first coordinates are the points' entries of number zero. -/
theorem xs_at (p : Fin 4096) (k : Fin 129) :
    val_main_v4 (F := Ideal) x1 x2 (ValueIdx.ix2 p k) = val_main_v1 (F := Ideal) x1 x2 (ValueIdx.ix3 p k (0 : Fin 2)) := by
  rw [val_main_v4_apply, val_main_v3_apply]
  refine congrArg (val_main_v1 (F := Ideal) x1 x2) (funext fun a => Fin.ext ?_)
  match a with
  | ⟨0, _⟩ => show (p.val * 129 + k.val) / 129 = p.val; omega
  | ⟨1, _⟩ => show (p.val * 129 + k.val) / 1 % 129 = k.val; omega
  | ⟨2, _⟩ => rfl

/-- The second coordinates are the points' entries of number one. -/
theorem ys_at (p : Fin 4096) (k : Fin 129) :
    val_main_v10 (F := Ideal) x1 x2 (ValueIdx.ix2 p k) = val_main_v1 (F := Ideal) x1 x2 (ValueIdx.ix3 p k (1 : Fin 2)) := by
  rw [val_main_v10_apply, val_main_v9_apply]
  refine congrArg (val_main_v1 (F := Ideal) x1 x2) (funext fun a => Fin.ext ?_)
  match a with
  | ⟨0, _⟩ => show (p.val * 129 + k.val) / 129 = p.val; omega
  | ⟨1, _⟩ => show (p.val * 129 + k.val) / 1 % 129 = k.val; omega
  | ⟨2, _⟩ => rfl

/-- The first coordinate in pixels. -/
theorem posX (p : Fin 4096) (k : Fin 129) (a : ℝ) (h : val_main_v4 (F := Ideal) x1 x2 (ValueIdx.ix2 p k) = (a : EReal)) :
    val_main_v22 (F := Ideal) x1 x2 (ValueIdx.ix2 p k) = ((a - 1 / 2 : ℝ) : EReal) := by
  simp only [val_main_v22_apply, val_main_v20_apply, val_main_v18_apply, val_main_v16_apply, val_main_v8_apply, val_main_v6_apply, val_main_v5_apply, val_main_cst_apply, val_main_v7_apply, val_main_cst_0_apply, val_main_v15_apply, val_main_cst_3_apply, val_main_v17_apply, val_main_cst_4_apply, val_main_v19_apply, val_main_cst_5_apply, val_main_v21_apply, val_main_cst_6_apply]
  rw [h]
  exact coord a

/-- The first coordinate's pixel, the next one, and the part past the pixel. -/
theorem partsX (p : Fin 4096) (k : Fin 129) (a : ℝ) (h0 : -(1 / 2) ≤ a) (h1 : a < 3 / 2)
    (h : val_main_v4 (F := Ideal) x1 x2 (ValueIdx.ix2 p k) = (a : EReal)) :
    val_main_v31 (F := Ideal) x1 x2 (ValueIdx.ix2 p k) = (base a : EReal)
    ∧ val_main_v34 (F := Ideal) x1 x2 (ValueIdx.ix2 p k) = ((base a + 1 : ℝ) : EReal)
    ∧ val_main_v37 (F := Ideal) x1 x2 (ValueIdx.ix2 p k) = ((a - 1 / 2 - base a : ℝ) : EReal)
    ∧ val_main_v39 (F := Ideal) x1 x2 (ValueIdx.ix2 p k) = ((1 - (a - 1 / 2 - base a) : ℝ) : EReal) := by
  have hp := posX x1 x2 p k a h
  have hf : val_main_v31 (F := Ideal) x1 x2 (ValueIdx.ix2 p k) = (base a : EReal) := by
    rw [val_main_v31_apply, hp]
    show Ideal.liftRound Int.floor ((a - 1 / 2 : ℝ) : EReal) = _
    rw [Ideal.liftRound_coe, floor_base a h0 h1]
  have hr : val_main_v37 (F := Ideal) x1 x2 (ValueIdx.ix2 p k) = ((a - 1 / 2 - base a : ℝ) : EReal) := by
    rw [val_main_v37_apply, hp, hf]
    exact (EReal.coe_sub _ _).symm
  refine ⟨hf, ?_, hr, ?_⟩
  · simp only [val_main_v34_apply, val_main_v33_apply, val_main_cst_11_apply]
    rw [hf, Tap.w1]
    exact (EReal.coe_add _ _).symm
  · simp only [val_main_v39_apply, val_main_v38_apply, val_main_cst_13_apply]
    rw [hr, Tap.w1]
    exact (EReal.coe_sub _ _).symm

/-- The second coordinate in pixels. -/
theorem posY (p : Fin 4096) (k : Fin 129) (a : ℝ) (h : val_main_v10 (F := Ideal) x1 x2 (ValueIdx.ix2 p k) = (a : EReal)) :
    val_main_v30 (F := Ideal) x1 x2 (ValueIdx.ix2 p k) = ((a - 1 / 2 : ℝ) : EReal) := by
  simp only [val_main_v30_apply, val_main_v28_apply, val_main_v26_apply, val_main_v24_apply, val_main_v14_apply, val_main_v12_apply, val_main_v11_apply, val_main_cst_1_apply, val_main_v13_apply, val_main_cst_2_apply, val_main_v23_apply, val_main_cst_7_apply, val_main_v25_apply, val_main_cst_8_apply, val_main_v27_apply, val_main_cst_9_apply, val_main_v29_apply, val_main_cst_10_apply]
  rw [h]
  exact coord a

/-- The second coordinate's pixel, the next one, and the part past the pixel. -/
theorem partsY (p : Fin 4096) (k : Fin 129) (a : ℝ) (h0 : -(1 / 2) ≤ a) (h1 : a < 3 / 2)
    (h : val_main_v10 (F := Ideal) x1 x2 (ValueIdx.ix2 p k) = (a : EReal)) :
    val_main_v32 (F := Ideal) x1 x2 (ValueIdx.ix2 p k) = (base a : EReal)
    ∧ val_main_v36 (F := Ideal) x1 x2 (ValueIdx.ix2 p k) = ((base a + 1 : ℝ) : EReal)
    ∧ val_main_v40 (F := Ideal) x1 x2 (ValueIdx.ix2 p k) = ((a - 1 / 2 - base a : ℝ) : EReal)
    ∧ val_main_v42 (F := Ideal) x1 x2 (ValueIdx.ix2 p k) = ((1 - (a - 1 / 2 - base a) : ℝ) : EReal) := by
  have hp := posY x1 x2 p k a h
  have hf : val_main_v32 (F := Ideal) x1 x2 (ValueIdx.ix2 p k) = (base a : EReal) := by
    rw [val_main_v32_apply, hp]
    show Ideal.liftRound Int.floor ((a - 1 / 2 : ℝ) : EReal) = _
    rw [Ideal.liftRound_coe, floor_base a h0 h1]
  have hr : val_main_v40 (F := Ideal) x1 x2 (ValueIdx.ix2 p k) = ((a - 1 / 2 - base a : ℝ) : EReal) := by
    rw [val_main_v40_apply, hp, hf]
    exact (EReal.coe_sub _ _).symm
  refine ⟨hf, ?_, hr, ?_⟩
  · simp only [val_main_v36_apply, val_main_v35_apply, val_main_cst_12_apply]
    rw [hf, Tap.w1]
    exact (EReal.coe_add _ _).symm
  · simp only [val_main_v42_apply, val_main_v41_apply, val_main_cst_14_apply]
    rw [hr, Tap.w1]
    exact (EReal.coe_sub _ _).symm

/-- The sample of an image's channel at a point. -/
theorem sample_at (f : S16x64x128x128.Idx → ℝ) (hf : ∀ y, x0 y = (f y : EReal)) (p : Fin 4096) (k : Fin 129) (c : Fin 64)
    (hb : (x3 (ValueIdx.ix1 p)).toNat < 16) (a d : ℝ) (ha0 : -(1 / 2) ≤ a) (ha1 : a < 3 / 2) (hd0 : -(1 / 2) ≤ d) (hd1 : d < 3 / 2)
    (ha : val_main_v1 (F := Ideal) x1 x2 (ValueIdx.ix3 p k (0 : Fin 2)) = (a : EReal))
    (hd : val_main_v1 (F := Ideal) x1 x2 (ValueIdx.ix3 p k (1 : Fin 2)) = (d : EReal)) :
    val_main_v214 (F := Ideal) x0 x1 x2 x3 (ValueIdx.ix3 p k c)
      = ((samp (fun u v => f (ValueIdx.ix4 ⟨(x3 (ValueIdx.ix1 p)).toNat, hb⟩ c u v)) a d : ℝ) : EReal) := by
  obtain ⟨X0, X1, XF, XC⟩ := partsX x1 x2 p k a ha0 ha1 ((xs_at x1 x2 p k).trans ha)
  obtain ⟨Y0, Y1, YF, YC⟩ := partsY x1 x2 p k d hd0 hd1 ((ys_at x1 x2 p k).trans hd)
  have w0 : val_main_v44 (F := Ideal) x1 x2 (ValueIdx.ix2 p k) = (((1 - (a - 1 / 2 - base a)) * (1 - (d - 1 / 2 - base d)) : ℝ) : EReal) := by
    rw [val_main_v44_apply, XC, YC]; exact (EReal.coe_mul _ _).symm
  have w1 : val_main_v86 (F := Ideal) x1 x2 (ValueIdx.ix2 p k) = (((a - 1 / 2 - base a) * (1 - (d - 1 / 2 - base d)) : ℝ) : EReal) := by
    rw [val_main_v86_apply, XF, YC]; exact (EReal.coe_mul _ _).symm
  have w2 : val_main_v129 (F := Ideal) x1 x2 (ValueIdx.ix2 p k) = (((1 - (a - 1 / 2 - base a)) * (d - 1 / 2 - base d) : ℝ) : EReal) := by
    rw [val_main_v129_apply, XC, YF]; exact (EReal.coe_mul _ _).symm
  have w3 : val_main_v172 (F := Ideal) x1 x2 (ValueIdx.ix2 p k) = (((a - 1 / 2 - base a) * (d - 1 / 2 - base d) : ℝ) : EReal) := by
    rw [val_main_v172_apply, XF, YF]; exact (EReal.coe_mul _ _).symm
  rw [val_main_v214_apply, val_main_v171_apply, val_main_v128_apply,
    RefTap.tap0 x0 x1 x2 x3 f hf p k c hb _ _ _ (pix_base a) (pix_base d) X0 Y0 w0,
    RefTap.tap1 x0 x1 x2 x3 f hf p k c hb _ _ _ (pix_succ a) (pix_base d) X1 Y0 w1,
    RefTap.tap2 x0 x1 x2 x3 f hf p k c hb _ _ _ (pix_base a) (pix_succ d) X0 Y1 w2,
    RefTap.tap3 x0 x1 x2 x3 f hf p k c hb _ _ _ (pix_succ a) (pix_succ d) X1 Y1 w3]
  refine Eq.trans ?_ (congrArg (fun r : ℝ => (r : EReal)) (taps (fun u v => f (ValueIdx.ix4 ⟨(x3 (ValueIdx.ix1 p)).toNat, hb⟩ c u v)) a d ha0 hd0))
  push_cast
  rfl

end Cert.RefPoint
-- ==== Proof.RefValue.lean ====
/- The reference's result read at an entry: the hidden values by the second weights, the bias, the factor and the initial point. -/
module

public import proofs.«01_k».proof.Proof.RefPoint

@[expose] public section

noncomputable section

namespace Cert.RefValue

open Cert.ReferenceIdeal Cert.ReferenceIdeal.Gen Cert.ReferenceIdeal.Read Cert.Tap Cert.Sample
open Idealize.ShloMosaic Idealize.ShloMosaic.TcCoe Idealize.ShloMosaic.StableHlo

variable (x0 : FVec Ideal S16x64x128x128 .f32) (x1 : FVec Ideal S4096x2 .f32) (x2 : FVec Ideal S4096x128x2 .f32) (x3 : IVec S4096 32)
  (x4 : FVec Ideal S512x8256 .f32) (x5 : FVec Ideal S256x512 .f32) (x6 : FVec Ideal S256 .f32)

/-- The hidden value of a row. -/
theorem hidden_at (f : S16x64x128x128.Idx → ℝ) (hf : ∀ y, x0 y = (f y : EReal)) (w : S512x8256.Idx → ℝ) (hw : ∀ y, x4 y = (w y : EReal))
    (p : Fin 4096) (hb : (x3 (ValueIdx.ix1 p)).toNat < 16) (P : Fin 129 → Fin 2 → ℝ) (h0 : ∀ k d, -(1 / 2) ≤ P k d) (h1 : ∀ k d, P k d < 3 / 2)
    (hP : ∀ k d, val_main_v1 (F := Ideal) x1 x2 (ValueIdx.ix3 p k d) = (P k d : EReal)) (o : Fin 512) :
    val_main_v218 (F := Ideal) x0 x1 x2 x3 x4 (ValueIdx.ix2 p o)
      = ((hid (fun c u v => f (ValueIdx.ix4 ⟨(x3 (ValueIdx.ix1 p)).toNat, hb⟩ c u v)) (fun k => P k 0) (fun k => P k 1)
          (fun c k => w (ValueIdx.ix2 o (⟨c.val * 129 + k.val, by omega⟩ : Fin 8256))) : ℝ) : EReal) := by
  have term : ∀ q : Fin 8256, val_main_v216 (F := Ideal) x0 x1 x2 x3 (lidx_main_v218 (ValueIdx.ix2 p o) q)
      * val_main_v217 (F := Ideal) x4 (ridx_main_v218 (ValueIdx.ix2 p o) q)
      = ((samp (fun u v => f (ValueIdx.ix4 ⟨(x3 (ValueIdx.ix1 p)).toNat, hb⟩ (⟨q.val / 129, by omega⟩ : Fin 64) u v))
          (P ⟨q.val % 129, by omega⟩ 0) (P ⟨q.val % 129, by omega⟩ 1) * w (ValueIdx.ix2 o q) : ℝ) : EReal) := by
    intro q
    rw [val_main_v216_apply, val_main_v215_apply, val_main_v217_apply,
      show idx_main_v215 (idx_main_v216 (lidx_main_v218 (ValueIdx.ix2 p o) q))
        = ValueIdx.ix3 p (⟨q.val % 129, by omega⟩ : Fin 129) (⟨q.val / 129, by omega⟩ : Fin 64) from funext fun a => Fin.ext (by
          match a with
          | ⟨0, _⟩ => show (p.val * 8256 + q.val) / 8256 = p.val; omega
          | ⟨1, _⟩ => show (p.val * 8256 + q.val) % 129 = q.val % 129; omega
          | ⟨2, _⟩ => show (p.val * 8256 + q.val) / 129 % 64 = q.val / 129; omega),
      show idx_main_v217 (ridx_main_v218 (ValueIdx.ix2 p o) q) = ValueIdx.ix2 o q from funext fun a => by match a with | ⟨0, _⟩ => rfl | ⟨1, _⟩ => rfl,
      RefPoint.sample_at x0 x1 x2 x3 f hf p _ _ hb _ _ (h0 _ _) (h1 _ _) (h0 _ _) (h1 _ _) (hP _ 0) (hP _ 1), hw]
    exact (EReal.coe_mul _ _).symm
  rw [val_main_v218_apply, Finset.sum_congr rfl (fun q _ => term q), ← coe_sum, sum_line]
  refine congrArg (fun r : ℝ => (r : EReal)) (Finset.sum_congr rfl fun k _ => Finset.sum_congr rfl fun c _ => ?_)
  have e1 : (⟨(c.val * 129 + k.val) / 129, by omega⟩ : Fin 64) = c := Fin.ext (by show (c.val * 129 + k.val) / 129 = c.val; omega)
  have e2 : (⟨(c.val * 129 + k.val) % 129, by omega⟩ : Fin 129) = k := Fin.ext (by show (c.val * 129 + k.val) % 129 = k.val; omega)
  simp only [e1, e2]

/-- The result at a row, a point and a coordinate. -/
theorem result_at (H : Fin 512 → ℝ) (p : Fin 4096) (hH : ∀ o, val_main_v218 (F := Ideal) x0 x1 x2 x3 x4 (ValueIdx.ix2 p o) = (H o : EReal))
    (n : Fin 128) (d : Fin 2) :
    val_main_v227 (F := Ideal) x0 x1 x2 x3 x4 x5 x6 (ValueIdx.ix3 p n d)
      = ((∑ o : Fin 512, (H o : EReal) * x5 (ValueIdx.ix2 (⟨n.val * 2 + d.val, by omega⟩ : Fin 256) o))
          + x6 (ValueIdx.ix1 (⟨n.val * 2 + d.val, by omega⟩ : Fin 256))) * Ideal.ofBits .f32 0x40800000#32 + x2 (ValueIdx.ix3 p n d) := by
  rw [val_main_v227_apply, val_main_v226_apply, val_main_v225_apply, val_main_cst_70_apply, val_main_v224_apply,
    show idx_main_v224 (ValueIdx.ix3 p n d) = ValueIdx.ix2 p (⟨n.val * 2 + d.val, by omega⟩ : Fin 256) from funext fun a => Fin.ext (by
      match a with
      | ⟨0, _⟩ => show ((p.val * 128 + n.val) * 2 + d.val) / 256 = p.val; omega
      | ⟨1, _⟩ => show ((p.val * 128 + n.val) * 2 + d.val) % 256 = n.val * 2 + d.val; omega),
    val_main_v223_apply, val_main_v220_apply, val_main_v222_apply, val_main_v221_apply]
  have e : ∀ o : Fin 512, val_main_v218 (F := Ideal) x0 x1 x2 x3 x4 (lidx_main_v220 (ValueIdx.ix2 p (⟨n.val * 2 + d.val, by omega⟩ : Fin 256)) o)
      * val_main_v219 (F := Ideal) x5 (ridx_main_v220 (ValueIdx.ix2 p (⟨n.val * 2 + d.val, by omega⟩ : Fin 256)) o)
      = (H o : EReal) * x5 (ValueIdx.ix2 (⟨n.val * 2 + d.val, by omega⟩ : Fin 256) o) := by
    intro o
    rw [show lidx_main_v220 (ValueIdx.ix2 p (⟨n.val * 2 + d.val, by omega⟩ : Fin 256)) o = ValueIdx.ix2 p o from funext fun a => by match a with | ⟨0, _⟩ => rfl | ⟨1, _⟩ => rfl,
      hH, val_main_v219_apply]
    exact congrArg (fun z => (H o : EReal) * x5 z) (funext fun a => by match a with | ⟨0, _⟩ => rfl | ⟨1, _⟩ => rfl)
  rw [Finset.sum_congr rfl (fun o _ => e o)]
  exact congrArg (fun z => ((∑ o : Fin 512, (H o : EReal) * x5 (ValueIdx.ix2 (⟨n.val * 2 + d.val, by omega⟩ : Fin 256) o)) + x6 z) * Ideal.ofBits .f32 0x40800000#32 + x2 (ValueIdx.ix3 p n d))
    (funext fun a => by match a with | ⟨0, _⟩ => rfl)

end Cert.RefValue
-- ==== Proof.Algebraic.lean ====
/- The equation of the results: from memories agreeing on the arguments, both programs run to the same two results. -/
module

public import proofs.«01_k».proof.Proof.Frames
public import proofs.«01_k».proof.Proof.KernelValue
public import proofs.«01_k».proof.Proof.RefValue

@[expose] public section

noncomputable section

namespace Cert.Algebraic

open Cert.KernelValue Cert.KernelEntry
open Idealize.ShloMosaic Idealize.ShloMosaic.TcCoe Idealize.ShloMosaic.StableHlo Idealize.SL.Sem

attribute [local instance] Cert.PreProof.facts

/-- The kernel's first result is the reference's, under the precondition. -/
theorem first_eq (m : (ℓ : Loc Cert.KernelIdeal.nD Cert.KernelIdeal.τ Cert.KernelIdeal.sig) → Buf (Elt Ideal) ℓ) (h : Cert.Pre_KernelIdeal m)
    (hO : Cert.KernelIdeal.Gen.Ok m) (hH : Cert.KernelIdeal.Gen.Hyps m hO) :
    Cert.ReferenceIdeal.Read.val_main_v227 (F := Ideal) (a0 m) (a1 m) (a2 m) (a3 m) (a4 m) (a5 m) (a6 m)
      = shapeCast Cert.KernelIdeal.S4096x128x2 (Cert.KernelRun.out8 m hO hH 0) Cert.KernelIdeal.Gen.facts.shapeCasts_S4096x256_S4096x128x2 := by
  have hb : ∀ y, (a3 m y).toNat < 16 := Cert.PreProof.idx_lt _ _ _ _ _ _ _ (h 0).2.2.2.1
  have mono : ∀ (n k : ℕ) (hk : n + k < 4096), (a3 m (ValueIdx.ix1 ⟨n, by omega⟩)).toNat ≤ (a3 m (ValueIdx.ix1 ⟨n + k, hk⟩)).toNat :=
    Cert.PreProof.idx_mono _ _ _ _ _ _ _ (h 0).2.2.2.1 (h 0).2.2.2.2.1
  obtain ⟨f, hf⟩ : ∃ f : Cert.KernelIdeal.S16x64x128x128.Idx → ℝ, ∀ y, a0 m y = (f y : EReal) :=
    ⟨_, fun y => (Cert.PreProof.feature_real _ _ _ _ _ _ _ (h 0).1 y).choose_spec⟩
  obtain ⟨w, hw⟩ : ∃ w : Cert.KernelIdeal.S512x8256.Idx → ℝ, ∀ y, a4 m y = (w y : EReal) :=
    ⟨_, fun y => (Cert.PreProof.w1_real _ _ _ _ _ _ _ (h 0).2.2.2.2.2 y).choose_spec⟩
  obtain ⟨C, hC⟩ : ∃ C : Cert.KernelIdeal.S4096x2.Idx → ℝ, ∀ y, a1 m y = (C y : EReal) ∧ -(1 / 2) ≤ C y ∧ C y < 3 / 2 :=
    ⟨_, fun y => (Cert.PreProof.ct_real _ _ _ _ _ _ _ (h 0).2.1 y).choose_spec⟩
  obtain ⟨I, hI⟩ : ∃ I : Cert.KernelIdeal.S4096x128x2.Idx → ℝ, ∀ y, a2 m y = (I y : EReal) ∧ -(1 / 2) ≤ I y ∧ I y < 3 / 2 :=
    ⟨_, fun y => (Cert.PreProof.init_real _ _ _ _ _ _ _ (h 0).2.2.1 y).choose_spec⟩
  refine funext fun (y : Cert.KernelIdeal.S4096x128x2.Idx) => ?_
  obtain ⟨p, n, d, rfl⟩ : ∃ (p : Fin 4096) (n : Fin 128) (d : Fin 2), y = ValueIdx.ix3 p n d :=
    ⟨y 0, y 1, y 2, funext fun a => by match a with | ⟨0, _⟩ => rfl | ⟨1, _⟩ => rfl | ⟨2, _⟩ => rfl⟩
  obtain ⟨P, hP0, hPs⟩ : ∃ P : Fin 129 → Fin 2 → ℝ, (∀ e, P 0 e = C (ValueIdx.ix2 p e)) ∧ ∀ (k : Fin 128) e, P k.succ e = I (ValueIdx.ix3 p k e) :=
    ⟨fun k e => Fin.cases (C (ValueIdx.ix2 p e)) (fun k => I (ValueIdx.ix3 p k e)) k, fun _ => rfl, fun _ _ => rfl⟩
  have b0 : ∀ k e, -(1 / 2) ≤ P k e := fun k e => by
    refine Fin.cases ?_ (fun k => ?_) k
    · rw [hP0]; exact (hC _).2.1
    · rw [hPs]; exact (hI _).2.1
  have b1 : ∀ k e, P k e < 3 / 2 := fun k e => by
    refine Fin.cases ?_ (fun k => ?_) k
    · rw [hP0]; exact (hC _).2.2
    · rw [hPs]; exact (hI _).2.2
  have hP : ∀ k e, Cert.ReferenceIdeal.Read.val_main_v1 (F := Ideal) (a1 m) (a2 m) (ValueIdx.ix3 p k e) = (P k e : EReal) := fun k e => by
    refine Fin.cases ?_ (fun k => ?_) k
    · rw [hP0]; exact (Cert.RefPoint.pts_zero _ _ p e).trans (hC _).1
    · rw [hPs]; exact (Cert.RefPoint.pts_succ _ _ p k e).trans (hI _).1
  refine (Cert.RefValue.result_at (a0 m) (a1 m) (a2 m) (a3 m) (a4 m) (a5 m) (a6 m) _ p
    (Cert.RefValue.hidden_at (a0 m) (a1 m) (a2 m) (a3 m) (a4 m) f hf w hw p (hb _) P b0 b1 hP) n d).trans ?_
  refine Eq.trans ?_ (split_at _ p n d).symm
  exact (out_at m hO hH f hf w hw hb mono p P (fun e => by rw [hP0]; exact (hC _).1) (fun k e => by rw [hPs]; exact (hI _).1) n d).symm

/-- The reference's first result over any memory, read from its arguments, which it leaves as they were. -/
theorem reference_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      ∀ c : Dev Cert.ReferenceIdeal.nD,
        r.2.mem ((c.tc : Thread Cert.ReferenceIdeal.nD Cert.ReferenceIdeal.τ).loc Cert.ReferenceIdeal.main_v227)
          = Cert.ReferenceIdeal.Read.val_main_v227 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run Cert.ReferenceIdeal.defs _ _).mono
    (fun r h c => ⟨(h c).1.trans (Cert.ReferenceIdeal.Read.val_main_v227_eq (launchContents m c)), (h c).2.2⟩)
    (Cert.ReferenceIdeal.Value.run (F := Ideal) m ρ)

/-- The equation of the results. -/
theorem algebraic : Cert.algebraic_KernelIdeal_ReferenceIdeal := by
  intro m g m' g' h ha
  have hO := Cert.KernelIdealFrame.ok_of_pre m
  have hH := Cert.KernelIdealFrame.hyps_of_pre m h hO
  refine ⟨fun c => shapeCast Cert.KernelIdeal.S4096x128x2 (Cert.KernelRun.out8 m hO hH c) Cert.KernelIdeal.Gen.facts.shapeCasts_S4096x256_S4096x128x2,
    fun c => m ((c.tc : Thread Cert.KernelIdeal.nD Cert.KernelIdeal.τ).loc Cert.KernelIdeal.main_arg0), ?_, ?_⟩
  · exact Cert.KernelRun.run m g hO hH
  · refine (θ_run Cert.ReferenceIdeal.defs _ _).mono (fun r hr (c : Dev 1) => ?_) (reference_value m' g')
    obtain rfl : c = 0 := Subsingleton.elim _ _
    obtain ⟨e0, e1, e2, e3, e4, e5, e6⟩ := ha 0
    refine ⟨?_, (hr 0).2.1.trans e0, (hr 0).2⟩
    refine (hr 0).1.trans ?_
    rw [e0, e1, e2, e3, e4, e5, e6]
    exact first_eq m h hO hH

end Cert.Algebraic
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.PreProof.facts,
  Cert.Frames.kernel, Cert.Frames.ideal, Cert.Frames.reference, Cert.Frames.reference_pre, trivial, Cert.Algebraic.algebraic⟩

end Cert.Proof

end
